-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwRefIdeal (m : (ℓ : Loc Cert.AttnInDwRefIdeal.nD Cert.AttnInDwRefIdeal.τ Cert.AttnInDwRefIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwRefIdeal (m : (ℓ : Loc Cert.SsmInDwRefIdeal.nD Cert.SsmInDwRefIdeal.τ Cert.SsmInDwRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_AttnInDx (m : (ℓ : Loc Cert.AttnInDx.nD Cert.AttnInDx.τ Cert.AttnInDx.sig) → Buf (Elt Bits) ℓ) : Prop :=
  True

def Pre_AttnInDxIdeal (m : (ℓ : Loc Cert.AttnInDxIdeal.nD Cert.AttnInDxIdeal.τ Cert.AttnInDxIdeal.sig) → Buf (Elt Ideal) ℓ) : Prop :=
  True

def Pre_AttnInDxRefIdeal (m : (ℓ : Loc Cert.AttnInDxRefIdeal.nD Cert.AttnInDxRefIdeal.τ Cert.AttnInDxRefIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxRefIdeal (m : (ℓ : Loc Cert.SsmInDxRefIdeal.nD Cert.SsmInDxRefIdeal.τ Cert.SsmInDxRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxRefIdeal (m : (ℓ : Loc Cert.SsmOutDxRefIdeal.nD Cert.SsmOutDxRefIdeal.τ Cert.SsmOutDxRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ r.2.sem = fun _ => 0)

def quiescent_AttnInDwRefIdeal [hAttnInDwRefIdeal : Cert.AttnInDwRefIdeal.Facts] : Prop :=
  ∀ (m : (ℓ : Loc Cert.AttnInDwRefIdeal.nD Cert.AttnInDwRefIdeal.τ Cert.AttnInDwRefIdeal.sig) → Buf (Elt Ideal) ℓ) (g : Dev Cert.AttnInDwRefIdeal.nD → PrngReg), Pre_AttnInDwRefIdeal m →
    θ_run (Cert.AttnInDwRefIdeal.defs (F := Ideal)) (onTc (τ := Cert.AttnInDwRefIdeal.τ) (Cert.AttnInDwRefIdeal.main (F := Ideal))) ⟨m, fun _ => 0, g⟩ (fun r => (∀ c : Dev Cert.AttnInDwRefIdeal.nD,
      r.2.mem ((c.tc : Thread Cert.AttnInDwRefIdeal.nD Cert.AttnInDwRefIdeal.τ).loc Cert.AttnInDwRefIdeal.main_arg0) = m ((c.tc : Thread Cert.AttnInDwRefIdeal.nD Cert.AttnInDwRefIdeal.τ).loc Cert.AttnInDwRefIdeal.main_arg0)
      ∧ r.2.mem ((c.tc : Thread Cert.AttnInDwRefIdeal.nD Cert.AttnInDwRefIdeal.τ).loc Cert.AttnInDwRefIdeal.main_arg1) = m ((c.tc : Thread Cert.AttnInDwRefIdeal.nD Cert.AttnInDwRefIdeal.τ).loc Cert.AttnInDwRefIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwRefIdeal [hSsmInDwRefIdeal : Cert.SsmInDwRefIdeal.Facts] : Prop :=
  ∀ (m : (ℓ : Loc Cert.SsmInDwRefIdeal.nD Cert.SsmInDwRefIdeal.τ Cert.SsmInDwRefIdeal.sig) → Buf (Elt Ideal) ℓ) (g : Dev Cert.SsmInDwRefIdeal.nD → PrngReg), Pre_SsmInDwRefIdeal m →
    θ_run (Cert.SsmInDwRefIdeal.defs (F := Ideal)) (onTc (τ := Cert.SsmInDwRefIdeal.τ) (Cert.SsmInDwRefIdeal.main (F := Ideal))) ⟨m, fun _ => 0, g⟩ (fun r => (∀ c : Dev Cert.SsmInDwRefIdeal.nD,
      r.2.mem ((c.tc : Thread Cert.SsmInDwRefIdeal.nD Cert.SsmInDwRefIdeal.τ).loc Cert.SsmInDwRefIdeal.main_arg0) = m ((c.tc : Thread Cert.SsmInDwRefIdeal.nD Cert.SsmInDwRefIdeal.τ).loc Cert.SsmInDwRefIdeal.main_arg0)
      ∧ r.2.mem ((c.tc : Thread Cert.SsmInDwRefIdeal.nD Cert.SsmInDwRefIdeal.τ).loc Cert.SsmInDwRefIdeal.main_arg1) = m ((c.tc : Thread Cert.SsmInDwRefIdeal.nD Cert.SsmInDwRefIdeal.τ).loc Cert.SsmInDwRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_AttnInDx [hAttnInDx : Cert.AttnInDx.Facts] : Prop :=
  ∀ (m : (ℓ : Loc Cert.AttnInDx.nD Cert.AttnInDx.τ Cert.AttnInDx.sig) → Buf (Elt Bits) ℓ) (g : Dev Cert.AttnInDx.nD → PrngReg), Pre_AttnInDx m →
    θ_run (Cert.AttnInDx.defs (F := Bits)) (onTc (τ := Cert.AttnInDx.τ) (Cert.AttnInDx.main (F := Bits))) ⟨m, fun _ => 0, g⟩ (fun r => (∀ c : Dev Cert.AttnInDx.nD,
      r.2.mem ((c.tc : Thread Cert.AttnInDx.nD Cert.AttnInDx.τ).loc Cert.AttnInDx.main_arg0) = m ((c.tc : Thread Cert.AttnInDx.nD Cert.AttnInDx.τ).loc Cert.AttnInDx.main_arg0)
      ∧ r.2.mem ((c.tc : Thread Cert.AttnInDx.nD Cert.AttnInDx.τ).loc Cert.AttnInDx.main_arg1) = m ((c.tc : Thread Cert.AttnInDx.nD Cert.AttnInDx.τ).loc Cert.AttnInDx.main_arg1))
      ∧ r.2.sem = fun _ => 0)

def quiescent_AttnInDxIdeal [hAttnInDxIdeal : Cert.AttnInDxIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg), Pre_AttnInDxIdeal m →
    θ_run (Cert.AttnInDxIdeal.defs (F := Ideal)) (onTc (τ := Cert.AttnInDxIdeal.τ) (Cert.AttnInDxIdeal.main (F := Ideal))) ⟨m, fun _ => 0, g⟩ (fun r => (∀ c : Dev Cert.AttnInDxIdeal.nD,
      r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
      ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ r.2.sem = fun _ => 0)

def quiescent_AttnInDxRefIdeal [hAttnInDxRefIdeal : Cert.AttnInDxRefIdeal.Facts] : Prop :=
  ∀ (m : (ℓ : Loc Cert.AttnInDxRefIdeal.nD Cert.AttnInDxRefIdeal.τ Cert.AttnInDxRefIdeal.sig) → Buf (Elt Ideal) ℓ) (g : Dev Cert.AttnInDxRefIdeal.nD → PrngReg), Pre_AttnInDxRefIdeal m →
    θ_run (Cert.AttnInDxRefIdeal.defs (F := Ideal)) (onTc (τ := Cert.AttnInDxRefIdeal.τ) (Cert.AttnInDxRefIdeal.main (F := Ideal))) ⟨m, fun _ => 0, g⟩ (fun r => (∀ c : Dev Cert.AttnInDxRefIdeal.nD,
      r.2.mem ((c.tc : Thread Cert.AttnInDxRefIdeal.nD Cert.AttnInDxRefIdeal.τ).loc Cert.AttnInDxRefIdeal.main_arg0) = m ((c.tc : Thread Cert.AttnInDxRefIdeal.nD Cert.AttnInDxRefIdeal.τ).loc Cert.AttnInDxRefIdeal.main_arg0)
      ∧ r.2.mem ((c.tc : Thread Cert.AttnInDxRefIdeal.nD Cert.AttnInDxRefIdeal.τ).loc Cert.AttnInDxRefIdeal.main_arg1) = m ((c.tc : Thread Cert.AttnInDxRefIdeal.nD Cert.AttnInDxRefIdeal.τ).loc Cert.AttnInDxRefIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxRefIdeal [hSsmInDxRefIdeal : Cert.SsmInDxRefIdeal.Facts] : Prop :=
  ∀ (m : (ℓ : Loc Cert.SsmInDxRefIdeal.nD Cert.SsmInDxRefIdeal.τ Cert.SsmInDxRefIdeal.sig) → Buf (Elt Ideal) ℓ) (g : Dev Cert.SsmInDxRefIdeal.nD → PrngReg), Pre_SsmInDxRefIdeal m →
    θ_run (Cert.SsmInDxRefIdeal.defs (F := Ideal)) (onTc (τ := Cert.SsmInDxRefIdeal.τ) (Cert.SsmInDxRefIdeal.main (F := Ideal))) ⟨m, fun _ => 0, g⟩ (fun r => (∀ c : Dev Cert.SsmInDxRefIdeal.nD,
      r.2.mem ((c.tc : Thread Cert.SsmInDxRefIdeal.nD Cert.SsmInDxRefIdeal.τ).loc Cert.SsmInDxRefIdeal.main_arg0) = m ((c.tc : Thread Cert.SsmInDxRefIdeal.nD Cert.SsmInDxRefIdeal.τ).loc Cert.SsmInDxRefIdeal.main_arg0)
      ∧ r.2.mem ((c.tc : Thread Cert.SsmInDxRefIdeal.nD Cert.SsmInDxRefIdeal.τ).loc Cert.SsmInDxRefIdeal.main_arg1) = m ((c.tc : Thread Cert.SsmInDxRefIdeal.nD Cert.SsmInDxRefIdeal.τ).loc Cert.SsmInDxRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxRefIdeal [hSsmOutDxRefIdeal : Cert.SsmOutDxRefIdeal.Facts] : Prop :=
  ∀ (m : (ℓ : Loc Cert.SsmOutDxRefIdeal.nD Cert.SsmOutDxRefIdeal.τ Cert.SsmOutDxRefIdeal.sig) → Buf (Elt Ideal) ℓ) (g : Dev Cert.SsmOutDxRefIdeal.nD → PrngReg), Pre_SsmOutDxRefIdeal m →
    θ_run (Cert.SsmOutDxRefIdeal.defs (F := Ideal)) (onTc (τ := Cert.SsmOutDxRefIdeal.τ) (Cert.SsmOutDxRefIdeal.main (F := Ideal))) ⟨m, fun _ => 0, g⟩ (fun r => (∀ c : Dev Cert.SsmOutDxRefIdeal.nD,
      r.2.mem ((c.tc : Thread Cert.SsmOutDxRefIdeal.nD Cert.SsmOutDxRefIdeal.τ).loc Cert.SsmOutDxRefIdeal.main_arg0) = m ((c.tc : Thread Cert.SsmOutDxRefIdeal.nD Cert.SsmOutDxRefIdeal.τ).loc Cert.SsmOutDxRefIdeal.main_arg0)
      ∧ r.2.mem ((c.tc : Thread Cert.SsmOutDxRefIdeal.nD Cert.SsmOutDxRefIdeal.τ).loc Cert.SsmOutDxRefIdeal.main_arg1) = m ((c.tc : Thread Cert.SsmOutDxRefIdeal.nD Cert.SsmOutDxRefIdeal.τ).loc Cert.SsmOutDxRefIdeal.main_arg1))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v74_2)) (v1 : (c : Dev Cert.KernelIdeal.nD) → Buf (Elt Ideal) ((c.tc : Thread Cert.KernelIdeal.nD Cert.KernelIdeal.τ).loc Cert.KernelIdeal.main_v74_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_2) = v0 c
          ∧ r.2.mem ((c.tc : Thread Cert.KernelIdeal.nD Cert.KernelIdeal.τ).loc Cert.KernelIdeal.main_v74_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_AttnInDw_AttnInDwIdeal : Prop :=
  True

def algebraic_AttnInDwIdeal_AttnInDwRefIdeal [hAttnInDwIdeal : Cert.AttnInDwIdeal.Facts] [hAttnInDwRefIdeal : Cert.AttnInDwRefIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwRefIdeal.nD Cert.AttnInDwRefIdeal.τ Cert.AttnInDwRefIdeal.sig) → Buf (Elt Ideal) ℓ) (g' : Dev Cert.AttnInDwRefIdeal.nD → PrngReg), Pre_AttnInDwIdeal m →
    (∀ c : Dev Cert.AttnInDwIdeal.nD,
      m' ((c.tc : Thread Cert.AttnInDwRefIdeal.nD Cert.AttnInDwRefIdeal.τ).loc Cert.AttnInDwRefIdeal.main_arg0) = m ((c.tc : Thread Cert.AttnInDwIdeal.nD Cert.AttnInDwIdeal.τ).loc Cert.AttnInDwIdeal.main_arg0)
      ∧ m' ((c.tc : Thread Cert.AttnInDwRefIdeal.nD Cert.AttnInDwRefIdeal.τ).loc Cert.AttnInDwRefIdeal.main_arg1) = m ((c.tc : Thread Cert.AttnInDwIdeal.nD Cert.AttnInDwIdeal.τ).loc Cert.AttnInDwIdeal.main_arg1)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ θ_run (Cert.AttnInDwRefIdeal.defs (F := Ideal)) (onTc (τ := Cert.AttnInDwRefIdeal.τ) (Cert.AttnInDwRefIdeal.main (F := Ideal))) ⟨m', fun _ => 0, g'⟩ (fun r => ∀ c : Dev Cert.AttnInDwRefIdeal.nD,
          r.2.mem ((c.tc : Thread Cert.AttnInDwRefIdeal.nD Cert.AttnInDwRefIdeal.τ).loc Cert.AttnInDwRefIdeal.main_v9) = v0 c
          ∧ r.2.mem ((c.tc : Thread Cert.AttnInDwRefIdeal.nD Cert.AttnInDwRefIdeal.τ).loc Cert.AttnInDwRefIdeal.main_arg0) = m' ((c.tc : Thread Cert.AttnInDwRefIdeal.nD Cert.AttnInDwRefIdeal.τ).loc Cert.AttnInDwRefIdeal.main_arg0)
          ∧ r.2.mem ((c.tc : Thread Cert.AttnInDwRefIdeal.nD Cert.AttnInDwRefIdeal.τ).loc Cert.AttnInDwRefIdeal.main_arg1) = m' ((c.tc : Thread Cert.AttnInDwRefIdeal.nD Cert.AttnInDwRefIdeal.τ).loc Cert.AttnInDwRefIdeal.main_arg1))

def preserves_SsmInDw_SsmInDwIdeal : Prop :=
  True

def algebraic_SsmInDwIdeal_SsmInDwRefIdeal [hSsmInDwIdeal : Cert.SsmInDwIdeal.Facts] [hSsmInDwRefIdeal : Cert.SsmInDwRefIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwRefIdeal.nD Cert.SsmInDwRefIdeal.τ Cert.SsmInDwRefIdeal.sig) → Buf (Elt Ideal) ℓ) (g' : Dev Cert.SsmInDwRefIdeal.nD → PrngReg), Pre_SsmInDwIdeal m →
    (∀ c : Dev Cert.SsmInDwIdeal.nD,
      m' ((c.tc : Thread Cert.SsmInDwRefIdeal.nD Cert.SsmInDwRefIdeal.τ).loc Cert.SsmInDwRefIdeal.main_arg0) = m ((c.tc : Thread Cert.SsmInDwIdeal.nD Cert.SsmInDwIdeal.τ).loc Cert.SsmInDwIdeal.main_arg0)
      ∧ m' ((c.tc : Thread Cert.SsmInDwRefIdeal.nD Cert.SsmInDwRefIdeal.τ).loc Cert.SsmInDwRefIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwRefIdeal.defs (F := Ideal)) (onTc (τ := Cert.SsmInDwRefIdeal.τ) (Cert.SsmInDwRefIdeal.main (F := Ideal))) ⟨m', fun _ => 0, g'⟩ (fun r => ∀ c : Dev Cert.SsmInDwRefIdeal.nD,
          r.2.mem ((c.tc : Thread Cert.SsmInDwRefIdeal.nD Cert.SsmInDwRefIdeal.τ).loc Cert.SsmInDwRefIdeal.main_v9) = v0 c
          ∧ r.2.mem ((c.tc : Thread Cert.SsmInDwRefIdeal.nD Cert.SsmInDwRefIdeal.τ).loc Cert.SsmInDwRefIdeal.main_arg0) = m' ((c.tc : Thread Cert.SsmInDwRefIdeal.nD Cert.SsmInDwRefIdeal.τ).loc Cert.SsmInDwRefIdeal.main_arg0)
          ∧ r.2.mem ((c.tc : Thread Cert.SsmInDwRefIdeal.nD Cert.SsmInDwRefIdeal.τ).loc Cert.SsmInDwRefIdeal.main_arg1) = m' ((c.tc : Thread Cert.SsmInDwRefIdeal.nD Cert.SsmInDwRefIdeal.τ).loc Cert.SsmInDwRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v9) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_AttnInDx_AttnInDxIdeal : Prop :=
  True

def algebraic_AttnInDxIdeal_AttnInDxRefIdeal [hAttnInDxIdeal : Cert.AttnInDxIdeal.Facts] [hAttnInDxRefIdeal : Cert.AttnInDxRefIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg)
    (m' : (ℓ : Loc Cert.AttnInDxRefIdeal.nD Cert.AttnInDxRefIdeal.τ Cert.AttnInDxRefIdeal.sig) → Buf (Elt Ideal) ℓ) (g' : Dev Cert.AttnInDxRefIdeal.nD → PrngReg), Pre_AttnInDxIdeal m →
    (∀ c : Dev Cert.AttnInDxIdeal.nD,
      m' ((c.tc : Thread Cert.AttnInDxRefIdeal.nD Cert.AttnInDxRefIdeal.τ).loc Cert.AttnInDxRefIdeal.main_arg0) = m ((c.tc : Thread Cert.AttnInDxIdeal.nD Cert.AttnInDxIdeal.τ).loc Cert.AttnInDxIdeal.main_arg0)
      ∧ m' ((c.tc : Thread Cert.AttnInDxRefIdeal.nD Cert.AttnInDxRefIdeal.τ).loc Cert.AttnInDxRefIdeal.main_arg1) = m ((c.tc : Thread Cert.AttnInDxIdeal.nD Cert.AttnInDxIdeal.τ).loc Cert.AttnInDxIdeal.main_arg1)) →
    ∃ (v0 : (c : Dev Cert.AttnInDxIdeal.nD) → Buf (Elt Ideal) ((c.tc : Thread Cert.AttnInDxIdeal.nD Cert.AttnInDxIdeal.τ).loc Cert.AttnInDxIdeal.main_v0)),
      θ_run (Cert.AttnInDxIdeal.defs (F := Ideal)) (onTc (τ := Cert.AttnInDxIdeal.τ) (Cert.AttnInDxIdeal.main (F := Ideal))) ⟨m, fun _ => 0, g⟩ (fun r => ∀ c : Dev Cert.AttnInDxIdeal.nD,
          r.2.mem ((c.tc : Thread Cert.AttnInDxIdeal.nD Cert.AttnInDxIdeal.τ).loc Cert.AttnInDxIdeal.main_v0) = v0 c
          ∧ r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
          ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ θ_run (Cert.AttnInDxRefIdeal.defs (F := Ideal)) (onTc (τ := Cert.AttnInDxRefIdeal.τ) (Cert.AttnInDxRefIdeal.main (F := Ideal))) ⟨m', fun _ => 0, g'⟩ (fun r => ∀ c : Dev Cert.AttnInDxRefIdeal.nD,
          r.2.mem ((c.tc : Thread Cert.AttnInDxRefIdeal.nD Cert.AttnInDxRefIdeal.τ).loc Cert.AttnInDxRefIdeal.main_v6) = v0 c
          ∧ r.2.mem ((c.tc : Thread Cert.AttnInDxRefIdeal.nD Cert.AttnInDxRefIdeal.τ).loc Cert.AttnInDxRefIdeal.main_arg0) = m' ((c.tc : Thread Cert.AttnInDxRefIdeal.nD Cert.AttnInDxRefIdeal.τ).loc Cert.AttnInDxRefIdeal.main_arg0)
          ∧ r.2.mem ((c.tc : Thread Cert.AttnInDxRefIdeal.nD Cert.AttnInDxRefIdeal.τ).loc Cert.AttnInDxRefIdeal.main_arg1) = m' ((c.tc : Thread Cert.AttnInDxRefIdeal.nD Cert.AttnInDxRefIdeal.τ).loc Cert.AttnInDxRefIdeal.main_arg1))

def preserves_SsmInDx_SsmInDxIdeal : Prop :=
  True

def algebraic_SsmInDxIdeal_SsmInDxRefIdeal [hSsmInDxIdeal : Cert.SsmInDxIdeal.Facts] [hSsmInDxRefIdeal : Cert.SsmInDxRefIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxRefIdeal.nD Cert.SsmInDxRefIdeal.τ Cert.SsmInDxRefIdeal.sig) → Buf (Elt Ideal) ℓ) (g' : Dev Cert.SsmInDxRefIdeal.nD → PrngReg), Pre_SsmInDxIdeal m →
    (∀ c : Dev Cert.SsmInDxIdeal.nD,
      m' ((c.tc : Thread Cert.SsmInDxRefIdeal.nD Cert.SsmInDxRefIdeal.τ).loc Cert.SsmInDxRefIdeal.main_arg0) = m ((c.tc : Thread Cert.SsmInDxIdeal.nD Cert.SsmInDxIdeal.τ).loc Cert.SsmInDxIdeal.main_arg0)
      ∧ m' ((c.tc : Thread Cert.SsmInDxRefIdeal.nD Cert.SsmInDxRefIdeal.τ).loc Cert.SsmInDxRefIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxRefIdeal.defs (F := Ideal)) (onTc (τ := Cert.SsmInDxRefIdeal.τ) (Cert.SsmInDxRefIdeal.main (F := Ideal))) ⟨m', fun _ => 0, g'⟩ (fun r => ∀ c : Dev Cert.SsmInDxRefIdeal.nD,
          r.2.mem ((c.tc : Thread Cert.SsmInDxRefIdeal.nD Cert.SsmInDxRefIdeal.τ).loc Cert.SsmInDxRefIdeal.main_v6) = v0 c
          ∧ r.2.mem ((c.tc : Thread Cert.SsmInDxRefIdeal.nD Cert.SsmInDxRefIdeal.τ).loc Cert.SsmInDxRefIdeal.main_arg0) = m' ((c.tc : Thread Cert.SsmInDxRefIdeal.nD Cert.SsmInDxRefIdeal.τ).loc Cert.SsmInDxRefIdeal.main_arg0)
          ∧ r.2.mem ((c.tc : Thread Cert.SsmInDxRefIdeal.nD Cert.SsmInDxRefIdeal.τ).loc Cert.SsmInDxRefIdeal.main_arg1) = m' ((c.tc : Thread Cert.SsmInDxRefIdeal.nD Cert.SsmInDxRefIdeal.τ).loc Cert.SsmInDxRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v8) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_SsmOutDx_SsmOutDxIdeal : Prop :=
  True

def algebraic_SsmOutDxIdeal_SsmOutDxRefIdeal [hSsmOutDxIdeal : Cert.SsmOutDxIdeal.Facts] [hSsmOutDxRefIdeal : Cert.SsmOutDxRefIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxRefIdeal.nD Cert.SsmOutDxRefIdeal.τ Cert.SsmOutDxRefIdeal.sig) → Buf (Elt Ideal) ℓ) (g' : Dev Cert.SsmOutDxRefIdeal.nD → PrngReg), Pre_SsmOutDxIdeal m →
    (∀ c : Dev Cert.SsmOutDxIdeal.nD,
      m' ((c.tc : Thread Cert.SsmOutDxRefIdeal.nD Cert.SsmOutDxRefIdeal.τ).loc Cert.SsmOutDxRefIdeal.main_arg0) = m ((c.tc : Thread Cert.SsmOutDxIdeal.nD Cert.SsmOutDxIdeal.τ).loc Cert.SsmOutDxIdeal.main_arg0)
      ∧ m' ((c.tc : Thread Cert.SsmOutDxRefIdeal.nD Cert.SsmOutDxRefIdeal.τ).loc Cert.SsmOutDxRefIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxRefIdeal.defs (F := Ideal)) (onTc (τ := Cert.SsmOutDxRefIdeal.τ) (Cert.SsmOutDxRefIdeal.main (F := Ideal))) ⟨m', fun _ => 0, g'⟩ (fun r => ∀ c : Dev Cert.SsmOutDxRefIdeal.nD,
          r.2.mem ((c.tc : Thread Cert.SsmOutDxRefIdeal.nD Cert.SsmOutDxRefIdeal.τ).loc Cert.SsmOutDxRefIdeal.main_v6) = v0 c
          ∧ r.2.mem ((c.tc : Thread Cert.SsmOutDxRefIdeal.nD Cert.SsmOutDxRefIdeal.τ).loc Cert.SsmOutDxRefIdeal.main_arg0) = m' ((c.tc : Thread Cert.SsmOutDxRefIdeal.nD Cert.SsmOutDxRefIdeal.τ).loc Cert.SsmOutDxRefIdeal.main_arg0)
          ∧ r.2.mem ((c.tc : Thread Cert.SsmOutDxRefIdeal.nD Cert.SsmOutDxRefIdeal.τ).loc Cert.SsmOutDxRefIdeal.main_arg1) = m' ((c.tc : Thread Cert.SsmOutDxRefIdeal.nD Cert.SsmOutDxRefIdeal.τ).loc Cert.SsmOutDxRefIdeal.main_arg1))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v4) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v4) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v4) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def Claim : Prop :=
  ∃ (hKernel : Cert.Kernel.Facts) (hKernelIdeal : Cert.KernelIdeal.Facts) (hReferenceIdeal : Cert.ReferenceIdeal.Facts) (hAttnInDw : Cert.AttnInDw.Facts) (hAttnInDwIdeal : Cert.AttnInDwIdeal.Facts) (hAttnInDwRefIdeal : Cert.AttnInDwRefIdeal.Facts) (hSsmInDw : Cert.SsmInDw.Facts) (hSsmInDwIdeal : Cert.SsmInDwIdeal.Facts) (hSsmInDwRefIdeal : Cert.SsmInDwRefIdeal.Facts) (hAttnOutDw : Cert.AttnOutDw.Facts) (hAttnOutDwIdeal : Cert.AttnOutDwIdeal.Facts) (hAttnOutDwRefIdeal : Cert.AttnOutDwRefIdeal.Facts) (hAttnInDx : Cert.AttnInDx.Facts) (hAttnInDxIdeal : Cert.AttnInDxIdeal.Facts) (hAttnInDxRefIdeal : Cert.AttnInDxRefIdeal.Facts) (hSsmInDx : Cert.SsmInDx.Facts) (hSsmInDxIdeal : Cert.SsmInDxIdeal.Facts) (hSsmInDxRefIdeal : Cert.SsmInDxRefIdeal.Facts) (hAttnOutDx : Cert.AttnOutDx.Facts) (hAttnOutDxIdeal : Cert.AttnOutDxIdeal.Facts) (hAttnOutDxRefIdeal : Cert.AttnOutDxRefIdeal.Facts) (hSsmOutDx : Cert.SsmOutDx.Facts) (hSsmOutDxIdeal : Cert.SsmOutDxIdeal.Facts) (hSsmOutDxRefIdeal : Cert.SsmOutDxRefIdeal.Facts) (hAttnIn : Cert.AttnIn.Facts) (hAttnInIdeal : Cert.AttnInIdeal.Facts) (hAttnInRefIdeal : Cert.AttnInRefIdeal.Facts) (hSsmIn : Cert.SsmIn.Facts) (hSsmInIdeal : Cert.SsmInIdeal.Facts) (hSsmInRefIdeal : Cert.SsmInRefIdeal.Facts) (hAttnOut : Cert.AttnOut.Facts) (hAttnOutIdeal : Cert.AttnOutIdeal.Facts) (hAttnOutRefIdeal : Cert.AttnOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnInDw (hAttnInDw := hAttnInDw)
    ∧ quiescent_AttnInDwIdeal (hAttnInDwIdeal := hAttnInDwIdeal)
    ∧ quiescent_AttnInDwRefIdeal (hAttnInDwRefIdeal := hAttnInDwRefIdeal)
    ∧ quiescent_SsmInDw (hSsmInDw := hSsmInDw)
    ∧ quiescent_SsmInDwIdeal (hSsmInDwIdeal := hSsmInDwIdeal)
    ∧ quiescent_SsmInDwRefIdeal (hSsmInDwRefIdeal := hSsmInDwRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_AttnInDx (hAttnInDx := hAttnInDx)
    ∧ quiescent_AttnInDxIdeal (hAttnInDxIdeal := hAttnInDxIdeal)
    ∧ quiescent_AttnInDxRefIdeal (hAttnInDxRefIdeal := hAttnInDxRefIdeal)
    ∧ quiescent_SsmInDx (hSsmInDx := hSsmInDx)
    ∧ quiescent_SsmInDxIdeal (hSsmInDxIdeal := hSsmInDxIdeal)
    ∧ quiescent_SsmInDxRefIdeal (hSsmInDxRefIdeal := hSsmInDxRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_SsmOutDx (hSsmOutDx := hSsmOutDx)
    ∧ quiescent_SsmOutDxIdeal (hSsmOutDxIdeal := hSsmOutDxIdeal)
    ∧ quiescent_SsmOutDxRefIdeal (hSsmOutDxRefIdeal := hSsmOutDxRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnInDw_AttnInDwIdeal
    ∧ algebraic_AttnInDwIdeal_AttnInDwRefIdeal (hAttnInDwIdeal := hAttnInDwIdeal) (hAttnInDwRefIdeal := hAttnInDwRefIdeal)
    ∧ preserves_SsmInDw_SsmInDwIdeal
    ∧ algebraic_SsmInDwIdeal_SsmInDwRefIdeal (hSsmInDwIdeal := hSsmInDwIdeal) (hSsmInDwRefIdeal := hSsmInDwRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_AttnInDx_AttnInDxIdeal
    ∧ algebraic_AttnInDxIdeal_AttnInDxRefIdeal (hAttnInDxIdeal := hAttnInDxIdeal) (hAttnInDxRefIdeal := hAttnInDxRefIdeal)
    ∧ preserves_SsmInDx_SsmInDxIdeal
    ∧ algebraic_SsmInDxIdeal_SsmInDxRefIdeal (hSsmInDxIdeal := hSsmInDxIdeal) (hSsmInDxRefIdeal := hSsmInDxRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_SsmOutDx_SsmOutDxIdeal
    ∧ algebraic_SsmOutDxIdeal_SsmOutDxRefIdeal (hSsmOutDxIdeal := hSsmOutDxIdeal) (hSsmOutDxRefIdeal := hSsmOutDxRefIdeal)
    ∧ preserves_AttnIn_AttnInIdeal
    ∧ algebraic_AttnInIdeal_AttnInRefIdeal (hAttnInIdeal := hAttnInIdeal) (hAttnInRefIdeal := hAttnInRefIdeal)
    ∧ preserves_SsmIn_SsmInIdeal
    ∧ algebraic_SsmInIdeal_SsmInRefIdeal (hSsmInIdeal := hSsmInIdeal) (hSsmInRefIdeal := hSsmInRefIdeal)
    ∧ preserves_AttnOut_AttnOutIdeal
    ∧ algebraic_AttnOutIdeal_AttnOutRefIdeal (hAttnOutIdeal := hAttnOutIdeal) (hAttnOutRefIdeal := hAttnOutRefIdeal)
-- ==== Pre_finite.lean ====
abbrev S4096x16384 : Shape := ⟨2, ![4096, 16384]⟩
abbrev S4096x4096 : Shape := ⟨2, ![4096, 4096]⟩
abbrev S1x128 : Shape := ⟨2, ![1, 128]⟩
abbrev S_ : Shape := ⟨0, ![]⟩

class Facts : Prop where
  bitsLt_bf16_f32 : FTy.bits .bf16 < FTy.bits .f32
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x16384 .bf16) (main_arg1 : FVec F S4096x4096 .bf16) (main_arg2 : FVec F S1x128 .f32) (main_arg3 : FVec F S1x128 .f32) : IVec S_ 1 :=
  let main_v0 : FVec F S4096x16384 .f32 := (extf .f32 · bitsLt_bf16_f32) main_arg0
  let main_v1 : FVec F S4096x16384 .f32 := Host.absf main_v0
  let main_cst : FVec F S_ .f32 := constant S_ .f32 0x7F800000#32
  let main_v2 : FVec F S4096x16384 .f32 := broadcastInDim S4096x16384 ![] bcast_S_S4096x16384 main_cst
  let main_v3 : IVec S4096x16384 1 := cmpf .olt main_v1 main_v2
  let main_c : IVec S_ 1 := constantI S_ 1 1#1
  let main_v4 : IVec S_ 1 := (fun x v => Host.reduce IntOp.andi x v reducesTo_S4096x16384_S_d0_1 h_S_) main_v3 main_c
  let main_v5 : FVec F S4096x4096 .f32 := (extf .f32 · bitsLt_bf16_f32) main_arg1
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c_1 : IVec S_ 1 := constantI S_ 1 1#1
  let main_v9 : IVec S_ 1 := (fun x v => Host.reduce IntOp.andi x v reducesTo_S4096x4096_S_d0_1 h_S_) main_v8 main_c_1
  let main_v10 : IVec S_ 1 := andi main_v4 main_v9
  main_v10
-- ==== Kernel.lean ====
abbrev S4096x16384 : Shape := ⟨2, ![4096, 16384]⟩
abbrev S4096x4096 : Shape := ⟨2, ![4096, 4096]⟩
abbrev S1x128 : Shape := ⟨2, ![1, 128]⟩
abbrev S2x2048x32x128 : Shape := ⟨4, ![2, 2048, 32, 128]⟩
abbrev S128 : Shape := ⟨1, ![128]⟩
abbrev S_ : Shape := ⟨0, ![]⟩
abbrev S2x2048x32 : Shape := ⟨3, ![2, 2048, 32]⟩
abbrev S2x2048x32x1 : Shape := ⟨4, ![2, 2048, 32, 1]⟩
abbrev S1x1x1x128 : Shape := ⟨4, ![1, 1, 1, 128]⟩
abbrev S2x32x2048x128 : Shape := ⟨4, ![2, 32, 2048, 128]⟩
abbrev S2x32x2048x2048 : Shape := ⟨4, ![2, 32, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x32x8x256x8x256 : Shape := ⟨6, ![2, 32, 8, 256, 8, 256]⟩
abbrev S2x32x8x8x256x256 : Shape := ⟨6, ![2, 32, 8, 8, 256, 256]⟩
abbrev S2048x256 : Shape := ⟨2, ![2048, 256]⟩
abbrev S1x2x1x8x256x256 : Shape := ⟨6, ![1, 2, 1, 8, 256, 256]⟩
abbrev S256x256 : Shape := ⟨2, ![256, 256]⟩
abbrev S2048x128 : Shape := ⟨2, ![2048, 128]⟩
abbrev S256x1 : Shape := ⟨2, ![256, 1]⟩
abbrev S256x128 : Shape := ⟨2, ![256, 128]⟩
abbrev S1x1x1x1x256x256 : Shape := ⟨6, ![1, 1, 1, 1, 256, 256]⟩
abbrev S256 : Shape := ⟨1, ![256]⟩

abbrev nBuf : Space → Nat
  | .hbm => 133
  | .vmem => 33
  | .smem => 0
  | _ => 0

abbrev hbmTy0_0 (i : Nat) : BufTy := match i % 128 with
  | 0 => ⟨S4096x16384, .bf16⟩
  | 1 => ⟨S4096x4096, .bf16⟩
  | 2 => ⟨S1x128, .f32⟩
  | 3 => ⟨S1x128, .f32⟩
  | 4 => ⟨S4096x16384, .f32⟩
  | 5 => ⟨S4096x4096, .f32⟩
  | 6 => ⟨S4096x4096, .f32⟩
  | 7 => ⟨S4096x4096, .f32⟩
  | 8 => ⟨S4096x4096, .f32⟩
  | 9 => ⟨S2x2048x32x128, .f32⟩
  | 10 => ⟨S128, .f32⟩
  | 11 => ⟨S2x2048x32x128, .f32⟩
  | 12 => ⟨S_, .f32⟩
  | 13 => ⟨S2x2048x32, .f32⟩
  | 14 => ⟨S2x2048x32x1, .f32⟩
  | 15 => ⟨S_, .f32⟩
  | 16 => ⟨S2x2048x32x1, .f32⟩
  | 17 => ⟨S2x2048x32x1, .f32⟩
  | 18 => ⟨S_, .f32⟩
  | 19 => ⟨S2x2048x32x1, .f32⟩
  | 20 => ⟨S2x2048x32x1, .f32⟩
  | 21 => ⟨S2x2048x32x1, .f32⟩
  | 22 => ⟨S2x2048x32x128, .f32⟩
  | 23 => ⟨S2x2048x32x128, .f32⟩
  | 24 => ⟨S1x1x1x128, .f32⟩
  | 25 => ⟨S2x2048x32x128, .f32⟩
  | 26 => ⟨S2x2048x32x128, .f32⟩
  | 27 => ⟨S2x2048x32x128, .f32⟩
  | 28 => ⟨S128, .f32⟩
  | 29 => ⟨S2x2048x32x128, .f32⟩
  | 30 => ⟨S_, .f32⟩
  | 31 => ⟨S2x2048x32, .f32⟩
  | 32 => ⟨S2x2048x32x1, .f32⟩
  | 33 => ⟨S_, .f32⟩
  | 34 => ⟨S2x2048x32x1, .f32⟩
  | 35 => ⟨S2x2048x32x1, .f32⟩
  | 36 => ⟨S_, .f32⟩
  | 37 => ⟨S2x2048x32x1, .f32⟩
  | 38 => ⟨S2x2048x32x1, .f32⟩
  | 39 => ⟨S2x2048x32x1, .f32⟩
  | 40 => ⟨S2x2048x32x128, .f32⟩
  | 41 => ⟨S2x2048x32x128, .f32⟩
  | 42 => ⟨S1x1x1x128, .f32⟩
  | 43 => ⟨S2x2048x32x128, .f32⟩
  | 44 => ⟨S2x2048x32x128, .f32⟩
  | 45 => ⟨S2x32x2048x128, .f32⟩
  | 46 => ⟨S2x32x2048x128, .f32⟩
  | 47 => ⟨S2x32x2048x2048, .f32⟩
  | 48 => ⟨S_, .f32⟩
  | 49 => ⟨S2x32x2048x2048, .f32⟩
  | 50 => ⟨S2x32x2048x2048, .f32⟩
  | 51 => ⟨S2048, .i32⟩
  | 52 => ⟨S1x2048, .i32⟩
  | 53 => ⟨S2048, .i32⟩
  | 54 => ⟨S2048x1, .i32⟩
  | 55 => ⟨S2048x2048, .i32⟩
  | 56 => ⟨S2048x2048, .i32⟩
  | 57 => ⟨S2048x2048, .i1⟩
  | 58 => ⟨S2x32x2048x2048, .f32⟩
  | 59 => ⟨S2x32x2048x2048, .f32⟩
  | 60 => ⟨S_, .f32⟩
  | 61 => ⟨S2x32x2048x2048, .f32⟩
  | 62 => ⟨S2x32x2048x2048, .f32⟩
  | 63 => ⟨S2x32x2048x2048, .f32⟩
  | 64 => ⟨S2x32x2048x2048, .f32⟩
  | 65 => ⟨S2x32x2048x2048, .i1⟩
  | 66 => ⟨S2x32x2048x2048, .f32⟩
  | 67 => ⟨S2x32x2048x2048, .f32⟩
  | 68 => ⟨S2x32x2048x2048, .f32⟩
  | 69 => ⟨S2x32x2048x2048, .f32⟩
  | 70 => ⟨S2x32x2048x2048, .f32⟩
  | 71 => ⟨S2x32x2048x2048, .f32⟩
  | 72 => ⟨S2x32x2048x2048, .f32⟩
  | 73 => ⟨S2x32x2048x2048, .f32⟩
  | 74 => ⟨S2x32x2048x2048, .f32⟩
  | 75 => ⟨S_, .f32⟩
  | 76 => ⟨S_, .f32⟩
  | 77 => ⟨S2x32x2048x2048, .i1⟩
  | 78 => ⟨S2x32x2048x2048, .f32⟩
  | 79 => ⟨S2x32x2048x2048, .f32⟩
  | 80 => ⟨S_, .f32⟩
  | 81 => ⟨S_, .f32⟩
  | 82 => ⟨S2x32x2048x2048, .f32⟩
  | 83 => ⟨S2x32x2048x2048, .f32⟩
  | 84 => ⟨S2x32x2048x2048, .f32⟩
  | 85 => ⟨S_, .f32⟩
  | 86 => ⟨S2x32x2048x2048, .f32⟩
  | 87 => ⟨S2x32x2048x2048, .f32⟩
  | 88 => ⟨S2x32x2048x2048, .f32⟩
  | 89 => ⟨S2x32x2048x2048, .f32⟩
  | 90 => ⟨S2x32x2048x2048, .i1⟩
  | 91 => ⟨S2x32x2048x2048, .f32⟩
  | 92 => ⟨S2x32x2048x2048, .f32⟩
  | 93 => ⟨S2x32x2048x2048, .f32⟩
  | 94 => ⟨S2x32x2048x2048, .f32⟩
  | 95 => ⟨S2x32x2048x2048, .f32⟩
  | 96 => ⟨S2x32x2048x2048, .f32⟩
  | 97 => ⟨S2x32x2048x2048, .f32⟩
  | 98 => ⟨S2x32x2048x2048, .f32⟩
  | 99 => ⟨S2x32x2048x2048, .f32⟩
  | 100 => ⟨S2x32x2048x2048, .f32⟩
  | 101 => ⟨S2x32x2048x2048, .f32⟩
  | 102 => ⟨S_, .f32⟩
  | 103 => ⟨S_, .f32⟩
  | 104 => ⟨S2x32x2048x2048, .i1⟩
  | 105 => ⟨S2x32x2048x2048, .f32⟩
  | 106 => ⟨S2x32x2048x2048, .f32⟩
  | 107 => ⟨S2x2048x32x128, .f32⟩
  | 108 => ⟨S2x32x2048x128, .f32⟩
  | 109 => ⟨S2x32x2048x128, .f32⟩
  | 110 => ⟨S2x2048x32x128, .f32⟩
  | 111 => ⟨S4096x4096, .f32⟩
  | 112 => ⟨S4096x4096, .bf16⟩
  | 113 => ⟨S2x32x8x256x8x256, .f32⟩
  | 114 => ⟨S2x32x8x8x256x256, .f32⟩
  | 115 => ⟨S2x32x8x8x256x256, .bf16⟩
  | 116 => ⟨S2x32x2048x2048, .f32⟩
  | 117 => ⟨S2x32x2048x2048, .f32⟩
  | 118 => ⟨S_, .f32⟩
  | 119 => ⟨S2x32x2048x2048, .f32⟩
  | 120 => ⟨S2x32x2048x2048, .f32⟩
  | 121 => ⟨S_, .f32⟩
  | 122 => ⟨S2x32x2048x2048, .f32⟩
  | 123 => ⟨S2x32x2048x2048, .f32⟩
  | 124 => ⟨S2x32x8x256x8x256, .f32⟩
  | 125 => ⟨S2x32x8x8x256x256, .f32⟩
  | 126 => ⟨S2x32x8x8x256x256, .bf16⟩
  | 127 => ⟨S4096x4096, .bf16⟩
  | _ => ⟨S4096x16384, .bf16⟩

abbrev hbmTy0_1 (i : Nat) : BufTy := match i % 128 with
  | 0 => ⟨S4096x4096, .bf16⟩
  | 1 => ⟨S4096x4096, .bf16⟩
  | 2 => ⟨S4096x4096, .bf16⟩
  | 3 => ⟨S1x128, .f32⟩
  | 4 => ⟨S1x128, .f32⟩
  | _ => ⟨S4096x16384, .bf16⟩

abbrev hbmTy (i : Nat) : BufTy := match i / 128 with
  | 0 => hbmTy0_0 i
  | 1 => hbmTy0_1 i
  | _ => ⟨S4096x16384, .bf16⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1x2x1x8x256x256, .bf16⟩
  | .local _ .vmem, ⟨13, _⟩ => ⟨S1x2x1x8x256x256, .bf16⟩
  | .local _ .vmem, ⟨14, _⟩ => ⟨S1x2x1x8x256x256, .bf16⟩
  | .local _ .vmem, ⟨15, _⟩ => ⟨S1x2x1x8x256x256, .bf16⟩
  | .local _ .vmem, ⟨16, _⟩ => ⟨S1x128, .f32⟩
  | .local _ .vmem, ⟨17, _⟩ => ⟨S1x128, .f32⟩
  | .local _ .vmem, ⟨18, _⟩ => ⟨S256x256, .bf16⟩
  | .local _ .vmem, ⟨19, _⟩ => ⟨S256x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S1x128, .f32⟩
  | .local _ .vmem, ⟨27, _⟩ => ⟨S1x128, .f32⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .f32⟩
  | .local _ .vmem, ⟨32, _⟩ => ⟨S2048x256, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_call0_cst : Ref sig .tc := ⟨.hbm, 60, rfl⟩
abbrev main_call0_call0_v0 : Ref sig .tc := ⟨.hbm, 61, rfl⟩
abbrev main_call0_call0_v1 : Ref sig .tc := ⟨.hbm, 62, rfl⟩
abbrev main_call0_call0_v2 : Ref sig .tc := ⟨.hbm, 63, rfl⟩
abbrev main_call0_call0_v3 : Ref sig .tc := ⟨.hbm, 64, rfl⟩
abbrev main_call0_call0_v4 : Ref sig .tc := ⟨.hbm, 65, rfl⟩
abbrev main_call0_call0_v5 : Ref sig .tc := ⟨.hbm, 66, rfl⟩
abbrev main_call0_call0_v6 : Ref sig .tc := ⟨.hbm, 67, rfl⟩
abbrev main_call0_call0_v7 : Ref sig .tc := ⟨.hbm, 68, rfl⟩
abbrev main_call0_call0_v8 : Ref sig .tc := ⟨.hbm, 69, rfl⟩
abbrev main_call0_call0_v9 : Ref sig .tc := ⟨.hbm, 70, rfl⟩
abbrev main_call0_call0_v10 : Ref sig .tc := ⟨.hbm, 71, rfl⟩
abbrev main_call0_call0_v11 : Ref sig .tc := ⟨.hbm, 72, rfl⟩
abbrev main_call0_v1 : Ref sig .tc := ⟨.hbm, 73, rfl⟩
abbrev main_v48 : Ref sig .tc := ⟨.hbm, 74, rfl⟩
abbrev main_cst_6 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_8 : Ref sig .tc := ⟨.hbm, 118, rfl⟩
abbrev main_v67 : Ref sig .tc := ⟨.hbm, 119, rfl⟩
abbrev main_v68 : Ref sig .tc := ⟨.hbm, 120, rfl⟩
abbrev main_cst_9 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74_0 : Ref sig .tc := ⟨.hbm, 127, rfl⟩
abbrev main_v74_1 : Ref sig .tc := ⟨.hbm, 128, rfl⟩
abbrev main_v74_2 : Ref sig .tc := ⟨.hbm, 129, rfl⟩
abbrev main_v74_3 : Ref sig .tc := ⟨.hbm, 130, rfl⟩
abbrev main_v74_4 : Ref sig .tc := ⟨.hbm, 131, rfl⟩
abbrev main_v74_5 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
@[reducible] def k0_t1_loop (i : grid0.Coords) : Scf.Loop 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_9 : BitVec 32 := 1#32
  ⟨c0_i32_8, v26, c1_i32_9⟩
def k0_mult2 (i : grid0.Coords) (k0_t1 : Fin (k0_t1_loop i).trips) : BitVec 32 :=
  let c0_i32_8 : BitVec 32 := 0#32
  let c1_i32_9 : BitVec 32 := 1#32
  let arg24 : BitVec 32 := Scf.iv c0_i32_8 c1_i32_9 k0_t1
  let c256_i32_92 : BitVec 32 := 256#32
  let v204 : BitVec 32 := Scalar.muli arg24 c256_i32_92
  v204
def k0_off1 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v206 : Index := Scalar.indexCast v19
  let c0_93 : Index := 0#32
  ![v206.toNat, 0]
def k0_off2 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v208 : Index := Scalar.indexCast v19
  let c128_94 : Index := 128#32
  ![v208.toNat, 128]
def k0_off3 (i : grid0.Coords) (k0_t1 : Fin (k0_t1_loop i).trips) : Fin 6 → Nat :=
  let c0_97 : Index := 0#32
  let c0_98 : Index := 0#32
  let c0_99 : Index := 0#32
  let c0_i32_8 : BitVec 32 := 0#32
  let c1_i32_9 : BitVec 32 := 1#32
  let arg24 : BitVec 32 := Scf.iv c0_i32_8 c1_i32_9 k0_t1
  let v214 : Index := Scalar.indexCast arg24
  let c0_100 : Index := 0#32
  let c0_101 : Index := 0#32
  ![0, 0, 0, v214.toNat, 0, 0]
def k0_off4 (i : grid0.Coords) (k0_t1 : Fin (k0_t1_loop i).trips) : Fin 6 → Nat :=
  let c0_102 : Index := 0#32
  let c1_103 : Index := 1#32
  let c0_104 : Index := 0#32
  let c0_i32_8 : BitVec 32 := 0#32
  let c1_i32_9 : BitVec 32 := 1#32
  let arg24 : BitVec 32 := Scf.iv c0_i32_8 c1_i32_9 k0_t1
  let v217 : Index := Scalar.indexCast arg24
  let c0_105 : Index := 0#32
  let c0_106 : Index := 0#32
  ![0, 1, 0, v217.toNat, 0, 0]
def k0_off5 (i : grid0.Coords) (k0_t1 : Fin (k0_t1_loop i).trips) : Fin 2 → Nat :=
  let c0_i32_8 : BitVec 32 := 0#32
  let c1_i32_9 : BitVec 32 := 1#32
  let arg24 : BitVec 32 := Scf.iv c0_i32_8 c1_i32_9 k0_t1
  let c256_i32_92 : BitVec 32 := 256#32
  let v204 : BitVec 32 := Scalar.muli arg24 c256_i32_92
  let v205 : BitVec 32 := v204
  let v220 : Index := Scalar.indexCast v205
  let c0_107 : Index := 0#32
  ![v220.toNat, 0]
def k0_off6 (i : grid0.Coords) (k0_t1 : Fin (k0_t1_loop i).trips) : Fin 2 → Nat :=
  let c0_i32_8 : BitVec 32 := 0#32
  let c1_i32_9 : BitVec 32 := 1#32
  let arg24 : BitVec 32 := Scf.iv c0_i32_8 c1_i32_9 k0_t1
  let c256_i32_92 : BitVec 32 := 256#32
  let v204 : BitVec 32 := Scalar.muli arg24 c256_i32_92
  let v205 : BitVec 32 := v204
  let v225 : Index := Scalar.indexCast v205
  let c128_109 : Index := 128#32
  ![v225.toNat, 128]
@[reducible] def k0_t2_loop (i : grid0.Coords) : Scf.Loop 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let v23 : BitVec 32 := Scalar.addi c0_i32_8 v22
  let c1_i32_10 : BitVec 32 := 1#32
  ⟨v26, v23, c1_i32_10⟩
def k0_mult3 (i : grid0.Coords) (k0_t2 : Fin (k0_t2_loop i).trips) : BitVec 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg24 : BitVec 32 := Scf.iv v26 c1_i32_10 k0_t2
  let c256_i32_92 : BitVec 32 := 256#32
  let v204 : BitVec 32 := Scalar.muli arg24 c256_i32_92
  v204
def k0_off7 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v206 : Index := Scalar.indexCast v19
  let c0_93 : Index := 0#32
  ![v206.toNat, 0]
def k0_off8 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v208 : Index := Scalar.indexCast v19
  let c128_94 : Index := 128#32
  ![v208.toNat, 128]
def k0_off9 (i : grid0.Coords) (k0_t2 : Fin (k0_t2_loop i).trips) : Fin 6 → Nat :=
  let c0_97 : Index := 0#32
  let c0_98 : Index := 0#32
  let c0_99 : Index := 0#32
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg24 : BitVec 32 := Scf.iv v26 c1_i32_10 k0_t2
  let v214 : Index := Scalar.indexCast arg24
  let c0_100 : Index := 0#32
  let c0_101 : Index := 0#32
  ![0, 0, 0, v214.toNat, 0, 0]
def k0_off10 (i : grid0.Coords) (k0_t2 : Fin (k0_t2_loop i).trips) : Fin 6 → Nat :=
  let c0_102 : Index := 0#32
  let c1_103 : Index := 1#32
  let c0_104 : Index := 0#32
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg24 : BitVec 32 := Scf.iv v26 c1_i32_10 k0_t2
  let v217 : Index := Scalar.indexCast arg24
  let c0_105 : Index := 0#32
  let c0_106 : Index := 0#32
  ![0, 1, 0, v217.toNat, 0, 0]
def k0_off11 (i : grid0.Coords) (k0_t2 : Fin (k0_t2_loop i).trips) : Fin 2 → Nat :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg24 : BitVec 32 := Scf.iv v26 c1_i32_10 k0_t2
  let c256_i32_92 : BitVec 32 := 256#32
  let v204 : BitVec 32 := Scalar.muli arg24 c256_i32_92
  let v205 : BitVec 32 := v204
  let v220 : Index := Scalar.indexCast v205
  let c0_107 : Index := 0#32
  ![v220.toNat, 0]
def k0_off12 (i : grid0.Coords) (k0_t2 : Fin (k0_t2_loop i).trips) : Fin 2 → Nat :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg24 : BitVec 32 := Scf.iv v26 c1_i32_10 k0_t2
  let c256_i32_92 : BitVec 32 := 256#32
  let v204 : BitVec 32 := Scalar.muli arg24 c256_i32_92
  let v205 : BitVec 32 := v204
  let v225 : Index := Scalar.indexCast v205
  let c128_109 : Index := 128#32
  ![v225.toNat, 128]
def k0_mult4 (i : grid0.Coords) : BitVec 32 :=
  let arg2 : BitVec 32 := BitVec.ofNat 32 (i 2).val
  let c256_i32_11 : BitVec 32 := 256#32
  let v29 : BitVec 32 := Scalar.muli arg2 c256_i32_11
  v29
def k0_off13 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v31 : Index := Scalar.indexCast v19
  let c0 : Index := 0#32
  ![v31.toNat, 0]
def k0_off14 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v33 : Index := Scalar.indexCast v19
  let c128 : Index := 128#32
  ![v33.toNat, 128]
def k0_off15 (i : grid0.Coords) : Fin 6 → Nat :=
  let c0_14 : Index := 0#32
  let c0_15 : Index := 0#32
  let c0_16 : Index := 0#32
  let arg2 : BitVec 32 := BitVec.ofNat 32 (i 2).val
  let v39 : Index := Scalar.indexCast arg2
  let c0_17 : Index := 0#32
  let c0_18 : Index := 0#32
  ![0, 0, 0, v39.toNat, 0, 0]
def k0_off16 (i : grid0.Coords) : Fin 6 → Nat :=
  let c0_19 : Index := 0#32
  let c1 : Index := 1#32
  let c0_20 : Index := 0#32
  let arg2 : BitVec 32 := BitVec.ofNat 32 (i 2).val
  let v42 : Index := Scalar.indexCast arg2
  let c0_21 : Index := 0#32
  let c0_22 : Index := 0#32
  ![0, 1, 0, v42.toNat, 0, 0]
def k0_cond3 (i : grid0.Coords) : BitVec 1 :=
  let arg2 : BitVec 32 := BitVec.ofNat 32 (i 2).val
  let c7_i32 : BitVec 32 := 7#32
  let v201 : BitVec 1 := Scalar.cmpi .eq arg2 c7_i32
  let v202 : BitVec 32 := Scalar.extui v201
  let c0_i32_91 : BitVec 32 := 0#32
  let v203 : BitVec 1 := Scalar.cmpi .ne v202 c0_i32_91
  v203

def k0_cond2 (i : grid0.Coords) : BitVec 1 :=
  let arg2 : BitVec 32 := BitVec.ofNat 32 (i 2).val
  let c0_i32_3 : BitVec 32 := 0#32
  let v7 : BitVec 1 := Scalar.cmpi .eq arg2 c0_i32_3
  let v8 : BitVec 32 := Scalar.extui v7
  let c0_i32_4 : BitVec 32 := 0#32
  let v9 : BitVec 1 := Scalar.cmpi .ne v8 c0_i32_4
  v9

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x1x8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x1x8x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]
-- ==== ReferenceIdeal.lean ====
abbrev S4096x16384 : Shape := ⟨2, ![4096, 16384]⟩
abbrev S4096x4096 : Shape := ⟨2, ![4096, 4096]⟩
abbrev S1x128 : Shape := ⟨2, ![1, 128]⟩
abbrev S2x2048x32x128 : Shape := ⟨4, ![2, 2048, 32, 128]⟩
abbrev S128 : Shape := ⟨1, ![128]⟩
abbrev S_ : Shape := ⟨0, ![]⟩
abbrev S2x2048x32 : Shape := ⟨3, ![2, 2048, 32]⟩
abbrev S2x2048x32x1 : Shape := ⟨4, ![2, 2048, 32, 1]⟩
abbrev S1x1x1x128 : Shape := ⟨4, ![1, 1, 1, 128]⟩
abbrev S2x32x2048x128 : Shape := ⟨4, ![2, 32, 2048, 128]⟩
abbrev S2x32x2048x2048 : Shape := ⟨4, ![2, 32, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x32x128x2048 : Shape := ⟨4, ![2, 32, 128, 2048]⟩

abbrev nBuf : Space → Nat
  | .hbm => 304
  | .vmem => 0
  | .smem => 0
  | _ => 0

abbrev hbmTy0_0 (i : Nat) : BufTy := match i % 128 with
  | 0 => ⟨S4096x16384, .bf16⟩
  | 1 => ⟨S4096x4096, .bf16⟩
  | 2 => ⟨S1x128, .f32⟩
  | 3 => ⟨S1x128, .f32⟩
  | 4 => ⟨S4096x4096, .bf16⟩
  | 5 => ⟨S4096x4096, .bf16⟩
  | 6 => ⟨S4096x4096, .bf16⟩
  | 7 => ⟨S4096x4096, .bf16⟩
  | 8 => ⟨S4096x4096, .f32⟩
  | 9 => ⟨S4096x4096, .f32⟩
  | 10 => ⟨S4096x4096, .f32⟩
  | 11 => ⟨S4096x4096, .f32⟩
  | 12 => ⟨S2x2048x32x128, .f32⟩
  | 13 => ⟨S128, .f32⟩
  | 14 => ⟨S2x2048x32x128, .f32⟩
  | 15 => ⟨S_, .f32⟩
  | 16 => ⟨S2x2048x32, .f32⟩
  | 17 => ⟨S2x2048x32x1, .f32⟩
  | 18 => ⟨S_, .f32⟩
  | 19 => ⟨S2x2048x32x1, .f32⟩
  | 20 => ⟨S2x2048x32x1, .f32⟩
  | 21 => ⟨S_, .f32⟩
  | 22 => ⟨S2x2048x32x1, .f32⟩
  | 23 => ⟨S2x2048x32x1, .f32⟩
  | 24 => ⟨S2x2048x32x1, .f32⟩
  | 25 => ⟨S2x2048x32x1, .f32⟩
  | 26 => ⟨S_, .f32⟩
  | 27 => ⟨S2x2048x32x1, .f32⟩
  | 28 => ⟨S2x2048x32x1, .f32⟩
  | 29 => ⟨S2x2048x32x128, .f32⟩
  | 30 => ⟨S2x2048x32x128, .f32⟩
  | 31 => ⟨S1x1x1x128, .f32⟩
  | 32 => ⟨S2x2048x32x128, .f32⟩
  | 33 => ⟨S2x2048x32x128, .f32⟩
  | 34 => ⟨S2x2048x32x128, .f32⟩
  | 35 => ⟨S128, .f32⟩
  | 36 => ⟨S2x2048x32x128, .f32⟩
  | 37 => ⟨S_, .f32⟩
  | 38 => ⟨S2x2048x32, .f32⟩
  | 39 => ⟨S2x2048x32x1, .f32⟩
  | 40 => ⟨S_, .f32⟩
  | 41 => ⟨S2x2048x32x1, .f32⟩
  | 42 => ⟨S2x2048x32x1, .f32⟩
  | 43 => ⟨S_, .f32⟩
  | 44 => ⟨S2x2048x32x1, .f32⟩
  | 45 => ⟨S2x2048x32x1, .f32⟩
  | 46 => ⟨S2x2048x32x1, .f32⟩
  | 47 => ⟨S2x2048x32x1, .f32⟩
  | 48 => ⟨S_, .f32⟩
  | 49 => ⟨S2x2048x32x1, .f32⟩
  | 50 => ⟨S2x2048x32x1, .f32⟩
  | 51 => ⟨S2x2048x32x128, .f32⟩
  | 52 => ⟨S2x2048x32x128, .f32⟩
  | 53 => ⟨S1x1x1x128, .f32⟩
  | 54 => ⟨S2x2048x32x128, .f32⟩
  | 55 => ⟨S2x2048x32x128, .f32⟩
  | 56 => ⟨S2x32x2048x128, .f32⟩
  | 57 => ⟨S2x32x2048x128, .f32⟩
  | 58 => ⟨S2x32x2048x2048, .f32⟩
  | 59 => ⟨S_, .f32⟩
  | 60 => ⟨S2x32x2048x2048, .f32⟩
  | 61 => ⟨S2x32x2048x2048, .f32⟩
  | 62 => ⟨S2048, .i32⟩
  | 63 => ⟨S1x2048, .i32⟩
  | 64 => ⟨S2048, .i32⟩
  | 65 => ⟨S2048x1, .i32⟩
  | 66 => ⟨S2048x2048, .i32⟩
  | 67 => ⟨S2048x2048, .i32⟩
  | 68 => ⟨S2048x2048, .i1⟩
  | 69 => ⟨S2x32x2048x2048, .f32⟩
  | 70 => ⟨S2x32x2048x2048, .f32⟩
  | 71 => ⟨S_, .f32⟩
  | 72 => ⟨S2x32x2048x2048, .f32⟩
  | 73 => ⟨S2x32x2048x2048, .f32⟩
  | 74 => ⟨S2x32x2048x2048, .f32⟩
  | 75 => ⟨S2x32x2048x2048, .f32⟩
  | 76 => ⟨S2x32x2048x2048, .i1⟩
  | 77 => ⟨S2x32x2048x2048, .f32⟩
  | 78 => ⟨S2x32x2048x2048, .f32⟩
  | 79 => ⟨S2x32x2048x2048, .f32⟩
  | 80 => ⟨S2x32x2048x2048, .f32⟩
  | 81 => ⟨S2x32x2048x2048, .f32⟩
  | 82 => ⟨S2x32x2048x2048, .f32⟩
  | 83 => ⟨S2x32x2048x2048, .f32⟩
  | 84 => ⟨S2x32x2048x2048, .f32⟩
  | 85 => ⟨S_, .f32⟩
  | 86 => ⟨S2x32x2048x2048, .f32⟩
  | 87 => ⟨S2x32x2048x2048, .i1⟩
  | 88 => ⟨S_, .f32⟩
  | 89 => ⟨S2x32x2048x2048, .f32⟩
  | 90 => ⟨S2x32x2048x2048, .f32⟩
  | 91 => ⟨S_, .f32⟩
  | 92 => ⟨S2x32x2048x2048, .f32⟩
  | 93 => ⟨S2x32x2048x2048, .i1⟩
  | 94 => ⟨S_, .f32⟩
  | 95 => ⟨S2x32x2048x2048, .f32⟩
  | 96 => ⟨S2x32x2048x2048, .f32⟩
  | 97 => ⟨S2x32x2048x2048, .f32⟩
  | 98 => ⟨S2x32x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S2x32x2048x2048, .f32⟩
  | 107 => ⟨S2x32x2048x2048, .i1⟩
  | 108 => ⟨S_, .f32⟩
  | 109 => ⟨S2x32x2048x2048, .f32⟩
  | 110 => ⟨S2x32x2048x2048, .f32⟩
  | 111 => ⟨S2x32x2048x2048, .f32⟩
  | 112 => ⟨S2x32x2048x2048, .f32⟩
  | 113 => ⟨S2x32x2048x2048, .f32⟩
  | 114 => ⟨S_, .f32⟩
  | 115 => ⟨S2x32x2048x2048, .f32⟩
  | 116 => ⟨S2x32x2048x2048, .f32⟩
  | 117 => ⟨S2x32x2048x2048, .f32⟩
  | 118 => ⟨S_, .f32⟩
  | 119 => ⟨S_, .f32⟩
  | 120 => ⟨S2x32x2048x2048, .i1⟩
  | 121 => ⟨S2x32x2048x2048, .f32⟩
  | 122 => ⟨S2x32x2048x2048, .f32⟩
  | 123 => ⟨S_, .f32⟩
  | 124 => ⟨S2x32x2048x2048, .f32⟩
  | 125 => ⟨S_, .f32⟩
  | 126 => ⟨S_, .f32⟩
  | 127 => ⟨S2x32x2048x2048, .f32⟩
  | _ => ⟨S4096x16384, .bf16⟩

abbrev hbmTy0_1 (i : Nat) : BufTy := match i % 128 with
  | 0 => ⟨S2x32x2048x2048, .f32⟩
  | 1 => ⟨S2x32x2048x2048, .f32⟩
  | 2 => ⟨S_, .f32⟩
  | 3 => ⟨S2x32x2048x2048, .f32⟩
  | 4 => ⟨S2x32x2048x2048, .f32⟩
  | 5 => ⟨S2x32x2048x2048, .f32⟩
  | 6 => ⟨S2x32x2048x2048, .f32⟩
  | 7 => ⟨S2x32x2048x2048, .i1⟩
  | 8 => ⟨S2x32x2048x2048, .f32⟩
  | 9 => ⟨S2x32x2048x2048, .f32⟩
  | 10 => ⟨S2x32x2048x2048, .f32⟩
  | 11 => ⟨S2x32x2048x2048, .f32⟩
  | 12 => ⟨S2x32x2048x2048, .f32⟩
  | 13 => ⟨S2x32x2048x2048, .f32⟩
  | 14 => ⟨S2x32x2048x2048, .f32⟩
  | 15 => ⟨S2x32x2048x2048, .f32⟩
  | 16 => ⟨S_, .f32⟩
  | 17 => ⟨S2x32x2048x2048, .f32⟩
  | 18 => ⟨S2x32x2048x2048, .i1⟩
  | 19 => ⟨S_, .f32⟩
  | 20 => ⟨S2x32x2048x2048, .f32⟩
  | 21 => ⟨S2x32x2048x2048, .f32⟩
  | 22 => ⟨S_, .f32⟩
  | 23 => ⟨S2x32x2048x2048, .f32⟩
  | 24 => ⟨S2x32x2048x2048, .i1⟩
  | 25 => ⟨S_, .f32⟩
  | 26 => ⟨S2x32x2048x2048, .f32⟩
  | 27 => ⟨S2x32x2048x2048, .f32⟩
  | 28 => ⟨S2x32x2048x2048, .f32⟩
  | 29 => ⟨S2x32x2048x2048, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S2x32x2048x2048, .f32⟩
  | 38 => ⟨S2x32x2048x2048, .i1⟩
  | 39 => ⟨S_, .f32⟩
  | 40 => ⟨S2x32x2048x2048, .f32⟩
  | 41 => ⟨S2x32x2048x2048, .f32⟩
  | 42 => ⟨S2x32x2048x2048, .f32⟩
  | 43 => ⟨S2x32x2048x2048, .f32⟩
  | 44 => ⟨S2x32x2048x2048, .f32⟩
  | 45 => ⟨S_, .f32⟩
  | 46 => ⟨S2x32x2048x2048, .f32⟩
  | 47 => ⟨S2x32x2048x2048, .f32⟩
  | 48 => ⟨S2x32x2048x2048, .f32⟩
  | 49 => ⟨S2x32x2048x2048, .f32⟩
  | 50 => ⟨S2x32x2048x2048, .f32⟩
  | 51 => ⟨S_, .f32⟩
  | 52 => ⟨S_, .f32⟩
  | 53 => ⟨S2x32x2048x2048, .i1⟩
  | 54 => ⟨S2x32x2048x2048, .f32⟩
  | 55 => ⟨S2x32x2048x2048, .f32⟩
  | 56 => ⟨S_, .f32⟩
  | 57 => ⟨S2x32x2048x2048, .f32⟩
  | 58 => ⟨S2x2048x32x128, .f32⟩
  | 59 => ⟨S2x32x2048x128, .f32⟩
  | 60 => ⟨S2x32x2048x128, .f32⟩
  | 61 => ⟨S2x2048x32x128, .f32⟩
  | 62 => ⟨S4096x4096, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S_, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S4096x4096, .f32⟩
  | 82 => ⟨S4096x4096, .f32⟩
  | 83 => ⟨S4096x4096, .f32⟩
  | 84 => ⟨S2x2048x32x128, .f32⟩
  | 85 => ⟨S2x32x2048x128, .f32⟩
  | 86 => ⟨S2x32x128x2048, .f32⟩
  | 87 => ⟨S2x32x2048x128, .f32⟩
  | 88 => ⟨S2x32x2048x2048, .f32⟩
  | 89 => ⟨S2x2048x32x128, .f32⟩
  | 90 => ⟨S4096x4096, .f32⟩
  | 91 => ⟨S_, .f32⟩
  | 92 => ⟨S2x32x2048x2048, .f32⟩
  | 93 => ⟨S2x32x2048x2048, .f32⟩
  | 94 => ⟨S2x32x2048x2048, .f32⟩
  | 95 => ⟨S2x32x2048x2048, .f32⟩
  | 96 => ⟨S2x32x2048x2048, .f32⟩
  | 97 => ⟨S2x32x2048x2048, .f32⟩
  | 98 => ⟨S2x32x2048x2048, .f32⟩
  | 99 => ⟨S_, .f32⟩
  | 100 => ⟨S_, .f32⟩
  | 101 => ⟨S2x32x2048x2048, .f32⟩
  | 102 => ⟨S2x32x2048x2048, .f32⟩
  | 103 => ⟨S_, .f32⟩
  | 104 => ⟨S2x32x2048x2048, .f32⟩
  | 105 => ⟨S2x32x2048x2048, .f32⟩
  | 106 => ⟨S2x32x2048x2048, .f32⟩
  | 107 => ⟨S2x32x2048x2048, .f32⟩
  | 108 => ⟨S2x32x2048x2048, .f32⟩
  | 109 => ⟨S2x32x2048x2048, .f32⟩
  | 110 => ⟨S2x32x2048x2048, .f32⟩
  | 111 => ⟨S_, .f32⟩
  | 112 => ⟨S2x32x2048x2048, .f32⟩
  | 113 => ⟨S2x32x2048x2048, .f32⟩
  | 114 => ⟨S2x32x2048x128, .f32⟩
  | 115 => ⟨S2x32x2048x128, .f32⟩
  | 116 => ⟨S2x2048x32x128, .f32⟩
  | 117 => ⟨S2x2048x32x128, .f32⟩
  | 118 => ⟨S2x2048x32x128, .f32⟩
  | 119 => ⟨S_, .f32⟩
  | 120 => ⟨S128, .f32⟩
  | 121 => ⟨S1x1x1x128, .f32⟩
  | 122 => ⟨S2x2048x32x128, .f32⟩
  | 123 => ⟨S2x2048x32x128, .f32⟩
  | 124 => ⟨S_, .f32⟩
  | 125 => ⟨S128, .f32⟩
  | 126 => ⟨S2x2048x32x128, .f32⟩
  | 127 => ⟨S_, .f32⟩
  | _ => ⟨S4096x16384, .bf16⟩

abbrev hbmTy0_2 (i : Nat) : BufTy := match i % 128 with
  | 0 => ⟨S2x2048x32, .f32⟩
  | 1 => ⟨S2x2048x32x1, .f32⟩
  | 2 => ⟨S2x2048x32x128, .f32⟩
  | 3 => ⟨S2x2048x32x128, .f32⟩
  | 4 => ⟨S2x2048x32x1, .f32⟩
  | 5 => ⟨S_, .f32⟩
  | 6 => ⟨S2x2048x32x1, .f32⟩
  | 7 => ⟨S2x2048x32x1, .f32⟩
  | 8 => ⟨S_, .f32⟩
  | 9 => ⟨S2x2048x32, .f32⟩
  | 10 => ⟨S2x2048x32x128, .f32⟩
  | 11 => ⟨S2x2048x32x128, .f32⟩
  | 12 => ⟨S2x2048x32x128, .f32⟩
  | 13 => ⟨S2x2048x32x128, .f32⟩
  | 14 => ⟨S2x2048x32x128, .f32⟩
  | 15 => ⟨S1x128, .f32⟩
  | 16 => ⟨S4096x4096, .f32⟩
  | 17 => ⟨S2x2048x32x128, .f32⟩
  | 18 => ⟨S_, .f32⟩
  | 19 => ⟨S128, .f32⟩
  | 20 => ⟨S1x1x1x128, .f32⟩
  | 21 => ⟨S2x2048x32x128, .f32⟩
  | 22 => ⟨S2x2048x32x128, .f32⟩
  | 23 => ⟨S_, .f32⟩
  | 24 => ⟨S128, .f32⟩
  | 25 => ⟨S2x2048x32x128, .f32⟩
  | 26 => ⟨S_, .f32⟩
  | 27 => ⟨S2x2048x32, .f32⟩
  | 28 => ⟨S2x2048x32x1, .f32⟩
  | 29 => ⟨S2x2048x32x128, .f32⟩
  | 30 => ⟨S2x2048x32x128, .f32⟩
  | 31 => ⟨S2x2048x32x1, .f32⟩
  | 32 => ⟨S_, .f32⟩
  | 33 => ⟨S2x2048x32x1, .f32⟩
  | 34 => ⟨S2x2048x32x1, .f32⟩
  | 35 => ⟨S_, .f32⟩
  | 36 => ⟨S2x2048x32, .f32⟩
  | 37 => ⟨S2x2048x32x128, .f32⟩
  | 38 => ⟨S2x2048x32x128, .f32⟩
  | 39 => ⟨S2x2048x32x128, .f32⟩
  | 40 => ⟨S2x2048x32x128, .f32⟩
  | 41 => ⟨S2x2048x32x128, .f32⟩
  | 42 => ⟨S1x128, .f32⟩
  | 43 => ⟨S4096x4096, .f32⟩
  | 44 => ⟨S4096x4096, .bf16⟩
  | 45 => ⟨S4096x4096, .bf16⟩
  | 46 => ⟨S4096x4096, .bf16⟩
  | 47 => ⟨S4096x4096, .bf16⟩
  | _ => ⟨S4096x16384, .bf16⟩

abbrev hbmTy (i : Nat) : BufTy := match i / 128 with
  | 0 => hbmTy0_0 i
  | 1 => hbmTy0_1 i
  | 2 => hbmTy0_2 i
  | _ => ⟨S4096x16384, .bf16⟩

abbrev bufTy : (tb : Table) → Fin (tcTables nBuf tb) → BufTy
  | .hbm, ⟨i, _⟩ => hbmTy i
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1_0 : Ref sig .tc := ⟨.hbm, 84, rfl⟩
abbrev main_call0_call0_cst_0 : Ref sig .tc := ⟨.hbm, 85, rfl⟩
abbrev main_call0_call0_v13 : Ref sig .tc := ⟨.hbm, 86, rfl⟩
abbrev main_call0_call0_v14 : Ref sig .tc := ⟨.hbm, 87, rfl⟩
abbrev main_call0_call0_cst_1 : Ref sig .tc := ⟨.hbm, 88, rfl⟩
abbrev main_call0_call0_v15 : Ref sig .tc := ⟨.hbm, 89, rfl⟩
abbrev main_call0_call0_v16 : Ref sig .tc := ⟨.hbm, 90, rfl⟩
abbrev main_call0_call0_cst_2 : Ref sig .tc := ⟨.hbm, 91, rfl⟩
abbrev main_call0_call0_v17 : Ref sig .tc := ⟨.hbm, 92, rfl⟩
abbrev main_call0_call0_v18 : Ref sig .tc := ⟨.hbm, 93, rfl⟩
abbrev main_call0_call0_cst_3 : Ref sig .tc := ⟨.hbm, 94, rfl⟩
abbrev main_call0_call0_v19 : Ref sig .tc := ⟨.hbm, 95, rfl⟩
abbrev main_call0_call0_v20 : Ref sig .tc := ⟨.hbm, 96, rfl⟩
abbrev main_call0_call0_v21 : Ref sig .tc := ⟨.hbm, 97, rfl⟩
abbrev main_v57_1 : Ref sig .tc := ⟨.hbm, 98, rfl⟩
abbrev main_call0_call0_cst_4 : Ref sig .tc := ⟨.hbm, 99, rfl⟩
abbrev main_call0_call0_cst_5 : Ref sig .tc := ⟨.hbm, 100, rfl⟩
abbrev main_call0_call0_v23 : Ref sig .tc := ⟨.hbm, 101, rfl⟩
abbrev main_call0_call0_cst_6 : Ref sig .tc := ⟨.hbm, 102, rfl⟩
abbrev main_call0_call0_cst_7 : Ref sig .tc := ⟨.hbm, 103, rfl⟩
abbrev main_call0_call0_v24 : Ref sig .tc := ⟨.hbm, 104, rfl⟩
abbrev main_call0_call0_cst_8 : Ref sig .tc := ⟨.hbm, 105, rfl⟩
abbrev main_call0_call0_v25 : Ref sig .tc := ⟨.hbm, 106, rfl⟩
abbrev main_call0_call0_v26 : Ref sig .tc := ⟨.hbm, 107, rfl⟩
abbrev main_call0_call0_cst_9 : Ref sig .tc := ⟨.hbm, 108, rfl⟩
abbrev main_call0_call0_v27 : Ref sig .tc := ⟨.hbm, 109, rfl⟩
abbrev main_call0_call0_v28 : Ref sig .tc := ⟨.hbm, 110, rfl⟩
abbrev main_call0_call0_v29 : Ref sig .tc := ⟨.hbm, 111, rfl⟩
abbrev main_call0_call0_v30 : Ref sig .tc := ⟨.hbm, 112, rfl⟩
abbrev main_call0_call0_v31 : Ref sig .tc := ⟨.hbm, 113, rfl⟩
abbrev main_call0_call0_cst_10 : Ref sig .tc := ⟨.hbm, 114, rfl⟩
abbrev main_call0_call0_v32 : Ref sig .tc := ⟨.hbm, 115, rfl⟩
abbrev main_v57_2 : Ref sig .tc := ⟨.hbm, 116, rfl⟩
abbrev main_v57_0 : Ref sig .tc := ⟨.hbm, 117, rfl⟩
abbrev main_cst_8 : Ref sig .tc := ⟨.hbm, 118, rfl⟩
abbrev main_call1_v0 : Ref sig .tc := ⟨.hbm, 119, rfl⟩
abbrev main_v58_1 : Ref sig .tc := ⟨.hbm, 120, rfl⟩
abbrev main_call1_v2 : Ref sig .tc := ⟨.hbm, 121, rfl⟩
abbrev main_v58_0 : Ref sig .tc := ⟨.hbm, 122, rfl⟩
abbrev main_call1_cst : Ref sig .tc := ⟨.hbm, 123, rfl⟩
abbrev main_v58_2 : Ref sig .tc := ⟨.hbm, 124, rfl⟩
abbrev main_call2_cst : Ref sig .tc := ⟨.hbm, 125, rfl⟩
abbrev main_call2_v0 : Ref sig .tc := ⟨.hbm, 126, rfl⟩
abbrev main_v59 : Ref sig .tc := ⟨.hbm, 127, rfl⟩
abbrev main_v60 : Ref sig .tc := ⟨.hbm, 128, rfl⟩
abbrev main_call3_v0 : Ref sig .tc := ⟨.hbm, 129, rfl⟩
abbrev main_call3_call0_cst : Ref sig .tc := ⟨.hbm, 130, rfl⟩
abbrev main_call3_call0_v0 : Ref sig .tc := ⟨.hbm, 131, rfl⟩
abbrev main_call3_call0_v1 : Ref sig .tc := ⟨.hbm, 132, rfl⟩
abbrev main_call3_call0_v2 : Ref sig .tc := ⟨.hbm, 133, rfl⟩
abbrev main_call3_call0_v3 : Ref sig .tc := ⟨.hbm, 134, rfl⟩
abbrev main_call3_call0_v4 : Ref sig .tc := ⟨.hbm, 135, rfl⟩
abbrev main_call3_call0_v5 : Ref sig .tc := ⟨.hbm, 136, rfl⟩
abbrev main_call3_call0_v6 : Ref sig .tc := ⟨.hbm, 137, rfl⟩
abbrev main_call3_call0_v7 : Ref sig .tc := ⟨.hbm, 138, rfl⟩
abbrev main_call3_call0_v8 : Ref sig .tc := ⟨.hbm, 139, rfl⟩
abbrev main_call3_call0_v9 : Ref sig .tc := ⟨.hbm, 140, rfl⟩
abbrev main_call3_call0_v10 : Ref sig .tc := ⟨.hbm, 141, rfl⟩
abbrev main_call3_call0_v11 : Ref sig .tc := ⟨.hbm, 142, rfl⟩
abbrev main_call3_v1_0 : Ref sig .tc := ⟨.hbm, 143, rfl⟩
abbrev main_call3_call0_cst_0 : Ref sig .tc := ⟨.hbm, 144, rfl⟩
abbrev main_call3_call0_v13 : Ref sig .tc := ⟨.hbm, 145, rfl⟩
abbrev main_call3_call0_v14 : Ref sig .tc := ⟨.hbm, 146, rfl⟩
abbrev main_call3_call0_cst_1 : Ref sig .tc := ⟨.hbm, 147, rfl⟩
abbrev main_call3_call0_v15 : Ref sig .tc := ⟨.hbm, 148, rfl⟩
abbrev main_call3_call0_v16 : Ref sig .tc := ⟨.hbm, 149, rfl⟩
abbrev main_call3_call0_cst_2 : Ref sig .tc := ⟨.hbm, 150, rfl⟩
abbrev main_call3_call0_v17 : Ref sig .tc := ⟨.hbm, 151, rfl⟩
abbrev main_call3_call0_v18 : Ref sig .tc := ⟨.hbm, 152, rfl⟩
abbrev main_call3_call0_cst_3 : Ref sig .tc := ⟨.hbm, 153, rfl⟩
abbrev main_call3_call0_v19 : Ref sig .tc := ⟨.hbm, 154, rfl⟩
abbrev main_call3_call0_v20 : Ref sig .tc := ⟨.hbm, 155, rfl⟩
abbrev main_call3_call0_v21 : Ref sig .tc := ⟨.hbm, 156, rfl⟩
abbrev main_v61_1 : Ref sig .tc := ⟨.hbm, 157, rfl⟩
abbrev main_call3_call0_cst_4 : Ref sig .tc := ⟨.hbm, 158, rfl⟩
abbrev main_call3_call0_cst_5 : Ref sig .tc := ⟨.hbm, 159, rfl⟩
abbrev main_call3_call0_v23 : Ref sig .tc := ⟨.hbm, 160, rfl⟩
abbrev main_call3_call0_cst_6 : Ref sig .tc := ⟨.hbm, 161, rfl⟩
abbrev main_call3_call0_cst_7 : Ref sig .tc := ⟨.hbm, 162, rfl⟩
abbrev main_call3_call0_v24 : Ref sig .tc := ⟨.hbm, 163, rfl⟩
abbrev main_call3_call0_cst_8 : Ref sig .tc := ⟨.hbm, 164, rfl⟩
abbrev main_call3_call0_v25 : Ref sig .tc := ⟨.hbm, 165, rfl⟩
abbrev main_call3_call0_v26 : Ref sig .tc := ⟨.hbm, 166, rfl⟩
abbrev main_call3_call0_cst_9 : Ref sig .tc := ⟨.hbm, 167, rfl⟩
abbrev main_call3_call0_v27 : Ref sig .tc := ⟨.hbm, 168, rfl⟩
abbrev main_call3_call0_v28 : Ref sig .tc := ⟨.hbm, 169, rfl⟩
abbrev main_call3_call0_v29 : Ref sig .tc := ⟨.hbm, 170, rfl⟩
abbrev main_call3_call0_v30 : Ref sig .tc := ⟨.hbm, 171, rfl⟩
abbrev main_call3_call0_v31 : Ref sig .tc := ⟨.hbm, 172, rfl⟩
abbrev main_call3_call0_cst_10 : Ref sig .tc := ⟨.hbm, 173, rfl⟩
abbrev main_call3_call0_v32 : Ref sig .tc := ⟨.hbm, 174, rfl⟩
abbrev main_v61_2 : Ref sig .tc := ⟨.hbm, 175, rfl⟩
abbrev main_v61_0 : Ref sig .tc := ⟨.hbm, 176, rfl⟩
abbrev main_v62 : Ref sig .tc := ⟨.hbm, 177, rfl⟩
abbrev main_v63 : Ref sig .tc := ⟨.hbm, 178, rfl⟩
abbrev main_cst_9 : Ref sig .tc := ⟨.hbm, 179, rfl⟩
abbrev main_call4_v0 : Ref sig .tc := ⟨.hbm, 180, rfl⟩
abbrev main_v64_1 : Ref sig .tc := ⟨.hbm, 181, rfl⟩
abbrev main_call4_v2 : Ref sig .tc := ⟨.hbm, 182, rfl⟩
abbrev main_v64_0 : Ref sig .tc := ⟨.hbm, 183, rfl⟩
abbrev main_call4_cst : Ref sig .tc := ⟨.hbm, 184, rfl⟩
abbrev main_v64_2 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_call5_v0 : Ref sig .tc := ⟨.hbm, 191, rfl⟩
abbrev main_call5_v1 : Ref sig .tc := ⟨.hbm, 192, rfl⟩
abbrev main_call5_cst : Ref sig .tc := ⟨.hbm, 193, rfl⟩
abbrev main_call5_v2 : Ref sig .tc := ⟨.hbm, 194, rfl⟩
abbrev main_call5_v3 : Ref sig .tc := ⟨.hbm, 195, rfl⟩
abbrev main_call5_cst_0 : Ref sig .tc := ⟨.hbm, 196, rfl⟩
abbrev main_call5_v4 : Ref sig .tc := ⟨.hbm, 197, rfl⟩
abbrev main_v70_2 : Ref sig .tc := ⟨.hbm, 198, rfl⟩
abbrev main_call5_cst_1 : Ref sig .tc := ⟨.hbm, 199, rfl⟩
abbrev main_call5_v6 : Ref sig .tc := ⟨.hbm, 200, rfl⟩
abbrev main_call5_v7 : Ref sig .tc := ⟨.hbm, 201, rfl⟩
abbrev main_v70_1 : Ref sig .tc := ⟨.hbm, 202, rfl⟩
abbrev main_v70_0 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_call6_v0 : Ref sig .tc := ⟨.hbm, 208, rfl⟩
abbrev main_call6_v1 : Ref sig .tc := ⟨.hbm, 209, rfl⟩
abbrev main_call6_v2 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_call7_cst : Ref sig .tc := ⟨.hbm, 219, rfl⟩
abbrev main_call7_v0 : Ref sig .tc := ⟨.hbm, 220, rfl⟩
abbrev main_v83 : Ref sig .tc := ⟨.hbm, 221, rfl⟩
abbrev main_v84 : Ref sig .tc := ⟨.hbm, 222, rfl⟩
abbrev main_call8_v0 : Ref sig .tc := ⟨.hbm, 223, rfl⟩
abbrev main_call8_v1 : Ref sig .tc := ⟨.hbm, 224, rfl⟩
abbrev main_v85 : Ref sig .tc := ⟨.hbm, 225, rfl⟩
abbrev main_v86 : Ref sig .tc := ⟨.hbm, 226, rfl⟩
abbrev main_call9_cst : Ref sig .tc := ⟨.hbm, 227, rfl⟩
abbrev main_call9_v0 : Ref sig .tc := ⟨.hbm, 228, rfl⟩
abbrev main_v87 : Ref sig .tc := ⟨.hbm, 229, rfl⟩
abbrev main_v88 : Ref sig .tc := ⟨.hbm, 230, rfl⟩
abbrev main_call10_cst : Ref sig .tc := ⟨.hbm, 231, rfl⟩
abbrev main_call10_v0 : Ref sig .tc := ⟨.hbm, 232, rfl⟩
abbrev main_v89 : Ref sig .tc := ⟨.hbm, 233, rfl⟩
abbrev main_call11_v0 : Ref sig .tc := ⟨.hbm, 234, rfl⟩
abbrev main_call11_v1 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_cst_10 : Ref sig .tc := ⟨.hbm, 239, rfl⟩
abbrev main_v93 : Ref sig .tc := ⟨.hbm, 240, rfl⟩
abbrev main_v94 : Ref sig .tc := ⟨.hbm, 241, rfl⟩
abbrev main_v95 : Ref sig .tc := ⟨.hbm, 242, rfl⟩
abbrev main_v96 : Ref sig .tc := ⟨.hbm, 243, rfl⟩
abbrev main_v97 : Ref sig .tc := ⟨.hbm, 244, rfl⟩
abbrev main_v98 : Ref sig .tc := ⟨.hbm, 245, rfl⟩
abbrev main_v99 : Ref sig .tc := ⟨.hbm, 246, rfl⟩
abbrev main_cst_11 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_cst_12 : Ref sig .tc := ⟨.hbm, 252, rfl⟩
abbrev main_v104 : Ref sig .tc := ⟨.hbm, 253, rfl⟩
abbrev main_v105 : Ref sig .tc := ⟨.hbm, 254, rfl⟩
abbrev main_cst_13 : Ref sig .tc := ⟨.hbm, 255, rfl⟩
abbrev main_v106 : Ref sig .tc := ⟨.hbm, 256, rfl⟩
abbrev main_v107 : Ref sig .tc := ⟨.hbm, 257, rfl⟩
abbrev main_v108 : Ref sig .tc := ⟨.hbm, 258, rfl⟩
abbrev main_v109 : Ref sig .tc := ⟨.hbm, 259, rfl⟩
abbrev main_v110 : Ref sig .tc := ⟨.hbm, 260, rfl⟩
abbrev main_cst_14 : Ref sig .tc := ⟨.hbm, 261, rfl⟩
abbrev main_v111 : Ref sig .tc := ⟨.hbm, 262, rfl⟩
abbrev main_v112 : Ref sig .tc := ⟨.hbm, 263, rfl⟩
abbrev main_cst_15 : Ref sig .tc := ⟨.hbm, 264, rfl⟩
abbrev main_v113 : Ref sig .tc := ⟨.hbm, 265, rfl⟩
abbrev main_v114 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_v119 : Ref sig .tc := ⟨.hbm, 271, rfl⟩
abbrev main_v120 : Ref sig .tc := ⟨.hbm, 272, rfl⟩
abbrev main_v121 : Ref sig .tc := ⟨.hbm, 273, rfl⟩
abbrev main_cst_16 : Ref sig .tc := ⟨.hbm, 274, rfl⟩
abbrev main_v122 : Ref sig .tc := ⟨.hbm, 275, rfl⟩
abbrev main_v123 : Ref sig .tc := ⟨.hbm, 276, rfl⟩
abbrev main_v124 : Ref sig .tc := ⟨.hbm, 277, rfl⟩
abbrev main_v125 : Ref sig .tc := ⟨.hbm, 278, rfl⟩
abbrev main_cst_17 : Ref sig .tc := ⟨.hbm, 279, rfl⟩
abbrev main_v126 : Ref sig .tc := ⟨.hbm, 280, rfl⟩
abbrev main_v127 : Ref sig .tc := ⟨.hbm, 281, rfl⟩
abbrev main_cst_18 : Ref sig .tc := ⟨.hbm, 282, rfl⟩
abbrev main_v128 : Ref sig .tc := ⟨.hbm, 283, rfl⟩
abbrev main_v129 : Ref sig .tc := ⟨.hbm, 284, rfl⟩
abbrev main_v130 : Ref sig .tc := ⟨.hbm, 285, rfl⟩
abbrev main_v131 : Ref sig .tc := ⟨.hbm, 286, rfl⟩
abbrev main_v132 : Ref sig .tc := ⟨.hbm, 287, rfl⟩
abbrev main_cst_19 : Ref sig .tc := ⟨.hbm, 288, rfl⟩
abbrev main_v133 : Ref sig .tc := ⟨.hbm, 289, rfl⟩
abbrev main_v134 : Ref sig .tc := ⟨.hbm, 290, rfl⟩
abbrev main_cst_20 : Ref sig .tc := ⟨.hbm, 291, rfl⟩
abbrev main_v135 : Ref sig .tc := ⟨.hbm, 292, rfl⟩
abbrev main_v136 : Ref sig .tc := ⟨.hbm, 293, rfl⟩
abbrev main_v137 : Ref sig .tc := ⟨.hbm, 294, rfl⟩
abbrev main_v138 : Ref sig .tc := ⟨.hbm, 295, rfl⟩
abbrev main_v139 : Ref sig .tc := ⟨.hbm, 296, rfl⟩
abbrev main_v140 : Ref sig .tc := ⟨.hbm, 297, rfl⟩
abbrev main_v141 : Ref sig .tc := ⟨.hbm, 298, rfl⟩
abbrev main_v142 : Ref sig .tc := ⟨.hbm, 299, rfl⟩
abbrev main_v143 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩

abbrev nD : Nat := 1
abbrev τ : Topo := Topo.v7x

variable {F : FTy → Type} [FloatOps F]
-- ==== AttnInDw.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnInDwIdeal.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnInDwRefIdeal.lean ====
abbrev S4096x4096 : Shape := ⟨2, ![4096, 4096]⟩
abbrev S4096x16384 : Shape := ⟨2, ![4096, 16384]⟩
abbrev S_ : Shape := ⟨0, ![]⟩
abbrev S8x4096x2048 : Shape := ⟨3, ![8, 4096, 2048]⟩
abbrev S4096x8x2048 : Shape := ⟨3, ![4096, 8, 2048]⟩
abbrev S8x2048x4096 : Shape := ⟨3, ![8, 2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .bf16⟩
  | .hbm, ⟨3, _⟩ => ⟨S8x4096x2048, .bf16⟩
  | .hbm, ⟨4, _⟩ => ⟨S4096x4096, .f32⟩
  | .hbm, ⟨5, _⟩ => ⟨S8x4096x2048, .f32⟩
  | .hbm, ⟨6, _⟩ => ⟨S4096x8x2048, .f32⟩
  | .hbm, ⟨7, _⟩ => ⟨S4096x16384, .f32⟩
  | .hbm, ⟨8, _⟩ => ⟨S4096x16384, .f32⟩
  | .hbm, ⟨9, _⟩ => ⟨S4096x8x2048, .f32⟩
  | .hbm, ⟨10, _⟩ => ⟨S8x2048x4096, .f32⟩
  | .hbm, ⟨11, _⟩ => ⟨S8x4096x2048, .f32⟩
  | .hbm, ⟨12, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SsmInDw.lean ====
abbrev S4096x4096 : Shape := ⟨2, ![4096, 4096]⟩
abbrev S4096x8192 : Shape := ⟨2, ![4096, 8192]⟩
abbrev S8x4096x1024 : Shape := ⟨3, ![8, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S8x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SsmInDwIdeal.lean ====
abbrev S4096x4096 : Shape := ⟨2, ![4096, 4096]⟩
abbrev S4096x8192 : Shape := ⟨2, ![4096, 8192]⟩
abbrev S8x4096x1024 : Shape := ⟨3, ![8, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S8x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SsmInDwRefIdeal.lean ====
abbrev S4096x4096 : Shape := ⟨2, ![4096, 4096]⟩
abbrev S4096x8192 : Shape := ⟨2, ![4096, 8192]⟩
abbrev S_ : Shape := ⟨0, ![]⟩
abbrev S8x4096x1024 : Shape := ⟨3, ![8, 4096, 1024]⟩
abbrev S4096x8x1024 : Shape := ⟨3, ![4096, 8, 1024]⟩
abbrev S8x1024x4096 : Shape := ⟨3, ![8, 1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S_, .bf16⟩
  | .hbm, ⟨3, _⟩ => ⟨S8x4096x1024, .bf16⟩
  | .hbm, ⟨4, _⟩ => ⟨S4096x4096, .f32⟩
  | .hbm, ⟨5, _⟩ => ⟨S8x4096x1024, .f32⟩
  | .hbm, ⟨6, _⟩ => ⟨S4096x8x1024, .f32⟩
  | .hbm, ⟨7, _⟩ => ⟨S4096x8192, .f32⟩
  | .hbm, ⟨8, _⟩ => ⟨S4096x8192, .f32⟩
  | .hbm, ⟨9, _⟩ => ⟨S4096x8x1024, .f32⟩
  | .hbm, ⟨10, _⟩ => ⟨S8x1024x4096, .f32⟩
  | .hbm, ⟨11, _⟩ => ⟨S8x4096x1024, .f32⟩
  | .hbm, ⟨12, _⟩ => ⟨S8x4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnOutDw.lean ====
abbrev S4096x4096 : Shape := ⟨2, ![4096, 4096]⟩
abbrev S1x4096x4096 : Shape := ⟨3, ![1, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnOutDwIdeal.lean ====
abbrev S4096x4096 : Shape := ⟨2, ![4096, 4096]⟩
abbrev S1x4096x4096 : Shape := ⟨3, ![1, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnOutDwRefIdeal.lean ====
abbrev S4096x4096 : Shape := ⟨2, ![4096, 4096]⟩
abbrev S_ : Shape := ⟨0, ![]⟩
abbrev S1x4096x4096 : Shape := ⟨3, ![1, 4096, 4096]⟩
abbrev S4096x1x4096 : Shape := ⟨3, ![4096, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .bf16⟩
  | .hbm, ⟨3, _⟩ => ⟨S1x4096x4096, .bf16⟩
  | .hbm, ⟨4, _⟩ => ⟨S4096x4096, .f32⟩
  | .hbm, ⟨5, _⟩ => ⟨S1x4096x4096, .f32⟩
  | .hbm, ⟨6, _⟩ => ⟨S4096x1x4096, .f32⟩
  | .hbm, ⟨7, _⟩ => ⟨S4096x4096, .f32⟩
  | .hbm, ⟨8, _⟩ => ⟨S4096x4096, .f32⟩
  | .hbm, ⟨9, _⟩ => ⟨S4096x1x4096, .f32⟩
  | .hbm, ⟨10, _⟩ => ⟨S1x4096x4096, .f32⟩
  | .hbm, ⟨11, _⟩ => ⟨S1x4096x4096, .f32⟩
  | .hbm, ⟨12, _⟩ => ⟨S1x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnInDx.lean ====
abbrev S4096x16384 : Shape := ⟨2, ![4096, 16384]⟩
abbrev S8x4096x2048 : Shape := ⟨3, ![8, 4096, 2048]⟩
abbrev S4096x4096 : Shape := ⟨2, ![4096, 4096]⟩
abbrev S1024x4096 : Shape := ⟨2, ![1024, 4096]⟩
abbrev S2x1024x2048 : Shape := ⟨3, ![2, 1024, 2048]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S2x1024x2048, .bf16⟩
  | .local _ .vmem, ⟨3, _⟩ => ⟨S2x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 4, 1], ![false, false, false, false]⟩

def k0_cond3 (i : grid0.Coords) : BitVec 1 :=
  let arg2 : BitVec 32 := BitVec.ofNat 32 (i 2).val
  let c1_i32 : BitVec 32 := 1#32
  let v9 : BitVec 32 := Scalar.muli arg2 c1_i32
  let arg3 : BitVec 32 := BitVec.ofNat 32 (i 3).val
  let v10 : BitVec 32 := Scalar.addi v9 arg3
  let c3_i32_11 : BitVec 32 := 3#32
  let v19 : BitVec 1 := Scalar.cmpi .eq v10 c3_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== AttnInDxIdeal.lean ====
abbrev S4096x16384 : Shape := ⟨2, ![4096, 16384]⟩
abbrev S8x4096x2048 : Shape := ⟨3, ![8, 4096, 2048]⟩
abbrev S4096x4096 : Shape := ⟨2, ![4096, 4096]⟩
abbrev S1024x4096 : Shape := ⟨2, ![1024, 4096]⟩
abbrev S2x1024x2048 : Shape := ⟨3, ![2, 1024, 2048]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S2x1024x2048, .bf16⟩
  | .local _ .vmem, ⟨3, _⟩ => ⟨S2x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 4, 1], ![false, false, false, false]⟩

def k0_cond3 (i : grid0.Coords) : BitVec 1 :=
  let arg2 : BitVec 32 := BitVec.ofNat 32 (i 2).val
  let c1_i32 : BitVec 32 := 1#32
  let v9 : BitVec 32 := Scalar.muli arg2 c1_i32
  let arg3 : BitVec 32 := BitVec.ofNat 32 (i 3).val
  let v10 : BitVec 32 := Scalar.addi v9 arg3
  let c3_i32_11 : BitVec 32 := 3#32
  let v19 : BitVec 1 := Scalar.cmpi .eq v10 c3_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== AttnInDxRefIdeal.lean ====
abbrev S4096x16384 : Shape := ⟨2, ![4096, 16384]⟩
abbrev S8x4096x2048 : Shape := ⟨3, ![8, 4096, 2048]⟩
abbrev S_ : Shape := ⟨0, ![]⟩
abbrev S4096x4096 : Shape := ⟨2, ![4096, 4096]⟩
abbrev S4096x8x2048 : Shape := ⟨3, ![4096, 8, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S_, .f32⟩
  | .hbm, ⟨3, _⟩ => ⟨S4096x4096, .f32⟩
  | .hbm, ⟨4, _⟩ => ⟨S8x4096x2048, .f32⟩
  | .hbm, ⟨5, _⟩ => ⟨S4096x8x2048, .f32⟩
  | .hbm, ⟨6, _⟩ => ⟨S4096x16384, .f32⟩
  | .hbm, ⟨7, _⟩ => ⟨S4096x16384, .f32⟩
  | .hbm, ⟨8, _⟩ => ⟨S4096x8x2048, .f32⟩
  | .hbm, ⟨9, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDx.lean ====
abbrev S4096x8192 : Shape := ⟨2, ![4096, 8192]⟩
abbrev S8x4096x1024 : Shape := ⟨3, ![8, 4096, 1024]⟩
abbrev S4096x4096 : Shape := ⟨2, ![4096, 4096]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 2, 1], ![false, false, false, false]⟩

def k0_cond3 (i : grid0.Coords) : BitVec 1 :=
  let arg2 : BitVec 32 := BitVec.ofNat 32 (i 2).val
  let c1_i32 : BitVec 32 := 1#32
  let v19 : BitVec 32 := Scalar.muli arg2 c1_i32
  let arg3 : BitVec 32 := BitVec.ofNat 32 (i 3).val
  let v20 : BitVec 32 := Scalar.addi v19 arg3
  let c1_i32_20 : BitVec 32 := 1#32
  let v29 : BitVec 1 := Scalar.cmpi .eq v20 c1_i32_20
  let v30 : BitVec 32 := Scalar.extui v29
  let c0_i32_21 : BitVec 32 := 0#32
  let v31 : BitVec 1 := Scalar.cmpi .ne v30 c0_i32_21
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SsmInDxIdeal.lean ====
abbrev S4096x8192 : Shape := ⟨2, ![4096, 8192]⟩
abbrev S8x4096x1024 : Shape := ⟨3, ![8, 4096, 1024]⟩
abbrev S4096x4096 : Shape := ⟨2, ![4096, 4096]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 2, 1], ![false, false, false, false]⟩

def k0_cond3 (i : grid0.Coords) : BitVec 1 :=
  let arg2 : BitVec 32 := BitVec.ofNat 32 (i 2).val
  let c1_i32 : BitVec 32 := 1#32
  let v19 : BitVec 32 := Scalar.muli arg2 c1_i32
  let arg3 : BitVec 32 := BitVec.ofNat 32 (i 3).val
  let v20 : BitVec 32 := Scalar.addi v19 arg3
  let c1_i32_20 : BitVec 32 := 1#32
  let v29 : BitVec 1 := Scalar.cmpi .eq v20 c1_i32_20
  let v30 : BitVec 32 := Scalar.extui v29
  let c0_i32_21 : BitVec 32 := 0#32
  let v31 : BitVec 1 := Scalar.cmpi .ne v30 c0_i32_21
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SsmInDxRefIdeal.lean ====
abbrev S4096x8192 : Shape := ⟨2, ![4096, 8192]⟩
abbrev S8x4096x1024 : Shape := ⟨3, ![8, 4096, 1024]⟩
abbrev S_ : Shape := ⟨0, ![]⟩
abbrev S4096x4096 : Shape := ⟨2, ![4096, 4096]⟩
abbrev S4096x8x1024 : Shape := ⟨3, ![4096, 8, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S_, .f32⟩
  | .hbm, ⟨3, _⟩ => ⟨S4096x4096, .f32⟩
  | .hbm, ⟨4, _⟩ => ⟨S8x4096x1024, .f32⟩
  | .hbm, ⟨5, _⟩ => ⟨S4096x8x1024, .f32⟩
  | .hbm, ⟨6, _⟩ => ⟨S4096x8192, .f32⟩
  | .hbm, ⟨7, _⟩ => ⟨S4096x8192, .f32⟩
  | .hbm, ⟨8, _⟩ => ⟨S4096x8x1024, .f32⟩
  | .hbm, ⟨9, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutDx.lean ====
abbrev S4096x4096 : Shape := ⟨2, ![4096, 4096]⟩
abbrev S1x4096x4096 : Shape := ⟨3, ![1, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== AttnOutDxIdeal.lean ====
abbrev S4096x4096 : Shape := ⟨2, ![4096, 4096]⟩
abbrev S1x4096x4096 : Shape := ⟨3, ![1, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== AttnOutDxRefIdeal.lean ====
abbrev S4096x4096 : Shape := ⟨2, ![4096, 4096]⟩
abbrev S1x4096x4096 : Shape := ⟨3, ![1, 4096, 4096]⟩
abbrev S_ : Shape := ⟨0, ![]⟩
abbrev S4096x1x4096 : Shape := ⟨3, ![4096, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S_, .bf16⟩
  | .hbm, ⟨3, _⟩ => ⟨S4096x4096, .bf16⟩
  | .hbm, ⟨4, _⟩ => ⟨S4096x4096, .f32⟩
  | .hbm, ⟨5, _⟩ => ⟨S1x4096x4096, .f32⟩
  | .hbm, ⟨6, _⟩ => ⟨S4096x1x4096, .f32⟩
  | .hbm, ⟨7, _⟩ => ⟨S4096x4096, .f32⟩
  | .hbm, ⟨8, _⟩ => ⟨S4096x4096, .f32⟩
  | .hbm, ⟨9, _⟩ => ⟨S4096x1x4096, .f32⟩
  | .hbm, ⟨10, _⟩ => ⟨S4096x4096, .f32⟩
  | .hbm, ⟨11, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SsmOutDx.lean ====
abbrev S4096x4096 : Shape := ⟨2, ![4096, 4096]⟩
abbrev S1x4096x4096 : Shape := ⟨3, ![1, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SsmOutDxIdeal.lean ====
abbrev S4096x4096 : Shape := ⟨2, ![4096, 4096]⟩
abbrev S1x4096x4096 : Shape := ⟨3, ![1, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SsmOutDxRefIdeal.lean ====
abbrev S4096x4096 : Shape := ⟨2, ![4096, 4096]⟩
abbrev S1x4096x4096 : Shape := ⟨3, ![1, 4096, 4096]⟩
abbrev S_ : Shape := ⟨0, ![]⟩
abbrev S4096x1x4096 : Shape := ⟨3, ![4096, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S_, .f32⟩
  | .hbm, ⟨3, _⟩ => ⟨S4096x4096, .f32⟩
  | .hbm, ⟨4, _⟩ => ⟨S1x4096x4096, .f32⟩
  | .hbm, ⟨5, _⟩ => ⟨S4096x1x4096, .f32⟩
  | .hbm, ⟨6, _⟩ => ⟨S4096x4096, .f32⟩
  | .hbm, ⟨7, _⟩ => ⟨S4096x4096, .f32⟩
  | .hbm, ⟨8, _⟩ => ⟨S4096x1x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnIn.lean ====
abbrev S4096x4096 : Shape := ⟨2, ![4096, 4096]⟩
abbrev S8x4096x2048 : Shape := ⟨3, ![8, 4096, 2048]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnInIdeal.lean ====
abbrev S4096x4096 : Shape := ⟨2, ![4096, 4096]⟩
abbrev S8x4096x2048 : Shape := ⟨3, ![8, 4096, 2048]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AttnInRefIdeal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x4096, .f32⟩
  | .hbm, ⟨3, _⟩ => ⟨S8x4096x2048, .f32⟩
  | .hbm, ⟨4, _⟩ => ⟨S4096x8x2048, .f32⟩
  | .hbm, ⟨5, _⟩ => ⟨S4096x16384, .f32⟩
  | .hbm, ⟨6, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmIn.lean ====
abbrev S4096x4096 : Shape := ⟨2, ![4096, 4096]⟩
abbrev S8x4096x1024 : Shape := ⟨3, ![8, 4096, 1024]⟩
abbrev S4096x8192 : Shape := ⟨2, ![4096, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SsmInIdeal.lean ====
abbrev S4096x4096 : Shape := ⟨2, ![4096, 4096]⟩
abbrev S8x4096x1024 : Shape := ⟨3, ![8, 4096, 1024]⟩
abbrev S4096x8192 : Shape := ⟨2, ![4096, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SsmInRefIdeal.lean ====
abbrev S4096x4096 : Shape := ⟨2, ![4096, 4096]⟩
abbrev S8x4096x1024 : Shape := ⟨3, ![8, 4096, 1024]⟩
abbrev S4096x8x1024 : Shape := ⟨3, ![4096, 8, 1024]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S4096x4096, .f32⟩
  | .hbm, ⟨3, _⟩ => ⟨S8x4096x1024, .f32⟩
  | .hbm, ⟨4, _⟩ => ⟨S4096x8x1024, .f32⟩
  | .hbm, ⟨5, _⟩ => ⟨S4096x8192, .f32⟩
  | .hbm, ⟨6, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnOut.lean ====
abbrev S4096x4096 : Shape := ⟨2, ![4096, 4096]⟩
abbrev S1x4096x4096 : Shape := ⟨3, ![1, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== AttnOutRefIdeal.lean ====
abbrev S4096x4096 : Shape := ⟨2, ![4096, 4096]⟩
abbrev S1x4096x4096 : Shape := ⟨3, ![1, 4096, 4096]⟩
abbrev S4096x1x4096 : Shape := ⟨3, ![4096, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .hbm, ⟨4, _⟩ => ⟨S1x4096x4096, .f32⟩
  | .hbm, ⟨5, _⟩ => ⟨S4096x1x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.AttnInDwProduct.lean ====
module

public import proofs.«01_k».proof.Defs
public import proofs.«01_k».proof.Proof.Gen.AttnInDwIdeal.Value
public import proofs.«01_k».proof.Proof.Gen.AttnInDwRefIdeal.Read
public import proofs.«01_k».proof.Proof.Gen.AttnInDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnInDwIdeal.Product

open Cert.AttnInDwIdeal Cert.AttnInDwIdeal.Gen

variable (m : (ℓ : Loc nD τ sig) → Buf (Elt Ideal) ℓ)

/-- The block each window holds at a grid point. -/
theorem idx : ∀ t : Fin cfg0.N, win0_0.index t = ![0, t.val / 2 % 4] ∧ win0_1.index t = ![0, t.val / 8 * 2 + t.val % 2] ∧ win0_2.index t = ![t.val / 8, t.val / 2 % 4, t.val % 2] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.AttnInDwRefIdeal.Read.val_main_v9 (F := Ideal) (m ((c : Thread nD τ).loc main_arg0)) (m ((c : Thread nD τ).loc main_arg1)) (((cfg0.win 2).blk t).view.emb y) := by
  pointwise [k0_pay1, Cert.AttnInDwRefIdeal.Read.val_main_v9, Cert.AttnInDwRefIdeal.Read.val_main_v8, Cert.AttnInDwRefIdeal.Read.val_main_v7, Cert.AttnInDwRefIdeal.Read.val_main_v6, Cert.AttnInDwRefIdeal.Read.val_main_v5, Cert.AttnInDwRefIdeal.Read.val_main_v1]
  refine Fin.sum_fin_congr fun k => (mul_comm _ _).trans ?_
  blk_point [iblk, V, idx t]

/-- The result array after the run. -/
theorem final (c : Dev nD) : (dats m 0 c).arrAt 2 (cfgs 0).N
    = Cert.AttnInDwRefIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.AttnInDwIdeal.Product

namespace Cert.Proof

/-- The call's result is the reference's. -/
theorem algebraic_AttnInDw : Cert.algebraic_AttnInDwIdeal_AttnInDwRefIdeal := by
  pair_intro
  · run_from Cert.AttnInDwIdeal.Gen.run_main m g
  · run_from Cert.AttnInDwRefIdeal.Value.run m' g'
    exact (Cert.AttnInDwIdeal.Product.final m c).symm

end Cert.Proof

end
-- ==== Proof.SsmInDwProduct.lean ====
module

public import proofs.«01_k».proof.Defs
public import proofs.«01_k».proof.Proof.Gen.SsmInDwIdeal.Value
public import proofs.«01_k».proof.Proof.Gen.SsmInDwRefIdeal.Read
public import proofs.«01_k».proof.Proof.Gen.SsmInDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmInDwIdeal.Product

open Cert.SsmInDwIdeal Cert.SsmInDwIdeal.Gen

variable (m : (ℓ : Loc nD τ sig) → Buf (Elt Ideal) ℓ)

/-- The block each window holds at a grid point. -/
theorem idx : ∀ t : Fin cfg0.N, win0_0.index t = ![0, t.val % 4] ∧ win0_1.index t = ![0, t.val / 4] ∧ win0_2.index t = ![t.val / 4, t.val % 4, 0] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.SsmInDwRefIdeal.Read.val_main_v9 (F := Ideal) (m ((c : Thread nD τ).loc main_arg0)) (m ((c : Thread nD τ).loc main_arg1)) (((cfg0.win 2).blk t).view.emb y) := by
  pointwise [k0_pay1, Cert.SsmInDwRefIdeal.Read.val_main_v9, Cert.SsmInDwRefIdeal.Read.val_main_v8, Cert.SsmInDwRefIdeal.Read.val_main_v7, Cert.SsmInDwRefIdeal.Read.val_main_v6, Cert.SsmInDwRefIdeal.Read.val_main_v5, Cert.SsmInDwRefIdeal.Read.val_main_v1]
  refine Fin.sum_fin_congr fun k => (mul_comm _ _).trans ?_
  blk_point [iblk, V, idx t]

/-- The result array after the run. -/
theorem final (c : Dev nD) : (dats m 0 c).arrAt 2 (cfgs 0).N
    = Cert.SsmInDwRefIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.SsmInDwIdeal.Product

namespace Cert.Proof

/-- The call's result is the reference's. -/
theorem algebraic_SsmInDw : Cert.algebraic_SsmInDwIdeal_SsmInDwRefIdeal := by
  pair_intro
  · run_from Cert.SsmInDwIdeal.Gen.run_main m g
  · run_from Cert.SsmInDwRefIdeal.Value.run m' g'
    exact (Cert.SsmInDwIdeal.Product.final m c).symm

end Cert.Proof

end
-- ==== Proof.AttnOutDwProduct.lean ====
module

public import proofs.«01_k».proof.Defs
public import proofs.«01_k».proof.Proof.Gen.AttnOutDwIdeal.Value
public import proofs.«01_k».proof.Proof.Gen.AttnOutDwRefIdeal.Read
public import proofs.«01_k».proof.Proof.Gen.AttnOutDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOutDwIdeal.Product

open Cert.AttnOutDwIdeal Cert.AttnOutDwIdeal.Gen

variable (m : (ℓ : Loc nD τ sig) → Buf (Elt Ideal) ℓ)

/-- The block each window holds at a grid point. -/
theorem idx : ∀ t : Fin cfg0.N, win0_0.index t = ![0, t.val / 4] ∧ win0_1.index t = ![0, t.val % 4] ∧ win0_2.index t = ![0, t.val / 4, t.val % 4] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.AttnOutDwRefIdeal.Read.val_main_v9 (F := Ideal) (m ((c : Thread nD τ).loc main_arg0)) (m ((c : Thread nD τ).loc main_arg1)) (((cfg0.win 2).blk t).view.emb y) := by
  pointwise [k0_pay1, Cert.AttnOutDwRefIdeal.Read.val_main_v9, Cert.AttnOutDwRefIdeal.Read.val_main_v8, Cert.AttnOutDwRefIdeal.Read.val_main_v7, Cert.AttnOutDwRefIdeal.Read.val_main_v6, Cert.AttnOutDwRefIdeal.Read.val_main_v5, Cert.AttnOutDwRefIdeal.Read.val_main_v1]
  refine Fin.sum_fin_congr fun k => (mul_comm _ _).trans ?_
  blk_point [iblk, V, idx t]

/-- The result array after the run. -/
theorem final (c : Dev nD) : (dats m 0 c).arrAt 2 (cfgs 0).N
    = Cert.AttnOutDwRefIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.AttnOutDwIdeal.Product

namespace Cert.Proof

/-- The call's result is the reference's. -/
theorem algebraic_AttnOutDw : Cert.algebraic_AttnOutDwIdeal_AttnOutDwRefIdeal := by
  pair_intro
  · run_from Cert.AttnOutDwIdeal.Gen.run_main m g
  · run_from Cert.AttnOutDwRefIdeal.Value.run m' g'
    exact (Cert.AttnOutDwIdeal.Product.final m c).symm

end Cert.Proof

end
-- ==== Proof.AttnInDxProduct.lean ====
module

public import proofs.«01_k».proof.Defs
public import proofs.«01_k».proof.Proof.Gen.AttnInDxIdeal.Value
public import proofs.«01_k».proof.Proof.Gen.AttnInDxRefIdeal.Read
public import proofs.«01_k».proof.Proof.Gen.AttnInDxRefIdeal.Run
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnInDxIdeal.Product

open Cert.AttnInDxIdeal Cert.AttnInDxIdeal.Gen

variable (m : (ℓ : Loc nD τ sig) → Buf (Elt Ideal) ℓ)

/-- The block each window holds at a grid point. -/
theorem idx : ∀ t : Fin cfg0.N, win0_0.index t = ![t.val / 16, t.val % 4] ∧ win0_1.index t = ![t.val % 4, t.val / 4 % 4, 0] ∧ win0_2.index t = ![t.val / 16, t.val / 4 % 4] :=
  (by decide +kernel : ∀ t : Fin grid0.N, _)

/-- A product of two ideal values. -/
abbrev mul (a b : EReal) : EReal := a * b

/-- The product of the two blocks of one grid step. -/
def part (c : Dev nD) (t : Fin cfg0.N) (y : S1024x1024.Idx) : EReal :=
  (∑ x : Fin 2048, mul (iblk m c 0 t (ix2 (y 0) ⟨x.val, by omega⟩)) (iblk m c 1 t (ix3 0 (y 1) x))) +
    ∑ x : Fin 2048, mul (iblk m c 0 t (ix2 (y 0) ⟨2048 + x.val, by omega⟩)) (iblk m c 1 t (ix3 1 (y 1) x))

/-- The scratch after the first step of a block. -/
theorem first (c : Dev nD) (t : Fin cfg0.N) (h : t.val % 4 = 0) (y) :
    (outsAt0 m c t.val t.isLt).2 y = part m c t y := by
  rw [outsAt0_A m c t h (by omega) (by omega)]
  frame_out
  pointwise [k0_pay2, k0_pay1]
  rfl

/-- The scratch after a middle step of a block. -/
theorem middle (c : Dev nD) (t : Fin cfg0.N) (h : 1 ≤ t.val % 4 ∧ t.val % 4 ≤ 2) (y) :
    (outsAt0 m c t.val t.isLt).2 y = (outsAt0 m c (t.val - 1) (by omega)).2 y + part m c t y := by
  rw [outsAt0_B m c t (by omega) h (by omega)]
  frame_out
  pointwise [k0_pay3, k0_pay1, read_unread_whole]
  rfl

/-- What the last step of a block stores. -/
theorem last (c : Dev nD) (t : Fin cfg0.N) (h : t.val % 4 = 3) (y) :
    (outsAt0 m c t.val t.isLt).1 y = (outsAt0 m c (t.val - 1) (by omega)).2 y + part m c t y := by
  rw [outsAt0_C m c t (by omega) (by omega) h]
  frame_out
  pointwise [k0_pay4, k0_pay1, read_unread_whole]
  rfl

/-- What is stored, as the sum of all steps' products. -/
theorem total (c : Dev nD) (t : Fin cfg0.N) (h : t.val % 4 = 3) (y) :
    (outsAt0 m c t.val t.isLt).1 y = ((part m c ⟨t.val - 3, by omega⟩ y + part m c ⟨t.val - 2, by omega⟩ y)
        + part m c ⟨t.val - 1, by omega⟩ y) + part m c t y := by
  rw [last m c t h]
  have h1 := middle m c ⟨t.val - 1, by omega⟩ (by dsimp only; omega) y
  have h2 := middle m c ⟨t.val - 2, by omega⟩ (by dsimp only; omega) y
  have h3 := first m c ⟨t.val - 3, by omega⟩ (by dsimp only; omega) y
  dsimp only at h1 h2 h3
  simp only [show t.val - 1 - 1 = t.val - 2 by omega] at h1
  simp only [show t.val - 2 - 1 = t.val - 3 by omega] at h2
  rw [h1, h2, h3]

/-- One head's product in the reference, at the place of the block stored at `t`. -/
def term (c : Dev nD) (t : Fin cfg0.N) (y : S1024x1024.Idx) (j : Fin 8) : EReal :=
  ∑ x : Fin 2048, mul (m ((c : Thread nD τ).loc main_arg0) (ix2 (((cfg0.win 2).blk t).view.emb y 0) ⟨j.val * 2048 + x.val, by omega⟩))
    (m ((c : Thread nD τ).loc main_arg1) (ix3 j (((cfg0.win 2).blk t).view.emb y 1) x))

/-- A step's product is that of the heads it reads. -/
theorem part_eq (c : Dev nD) (t s : Fin cfg0.N) (hs : s.val / 4 = t.val / 4) (a : Fin 4) (ha : s.val % 4 = a.val) (y) :
    part m c s y = term m c t y ⟨2 * a.val, by omega⟩ + term m c t y ⟨2 * a.val + 1, by omega⟩ := by
  have hst : s.val / 4 % 4 = t.val / 4 % 4 := by rw [hs]
  have hsm : s.val / (4 * 4) = t.val / (4 * 4) := by omega
  dsimp only [part, term, mul]
  congr 1
  · refine Fin.sum_fin_congr fun x => ?_
    blk_point [iblk, V, idx s, idx t, ha]
  · refine Fin.sum_fin_congr fun x => ?_
    blk_point [iblk, V, idx s, idx t, ha]

/-- The result array after the run. -/
theorem final (c : Dev nD) : (dats m 0 c).arrAt 2 (cfgs 0).N
    = Cert.AttnInDxRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h : t.val % 4 = 3 := (by decide +kernel : ∀ t : Fin grid0.N, ((cfgs 0).win 2).flush t = true → t.val % 4 = 3) t hf
  have ht : t.val < cfg0.N := t.isLt
  blk_simp
  rw [after0_2]
  refine (total m c t h y).trans ?_
  rw [part_eq m c t ⟨t.val - 3, by omega⟩ (by dsimp only; omega) 0 (by dsimp only; omega) y,
    part_eq m c t ⟨t.val - 2, by omega⟩ (by dsimp only; omega) 1 (by dsimp only; omega) y,
    part_eq m c t ⟨t.val - 1, by omega⟩ (by dsimp only; omega) 2 (by dsimp only; omega) y,
    part_eq m c t t rfl 3 h y]
  pointwise [Cert.AttnInDxRefIdeal.Read.val_main_v6,Cert.AttnInDxRefIdeal.Read.val_main_v5,Cert.AttnInDxRefIdeal.Read.val_main_v4,Cert.AttnInDxRefIdeal.Read.val_main_v1]
  rw [Fin.sum_univ_eight]
  simp only [← add_assoc]
  rfl

end Cert.AttnInDxIdeal.Product

namespace Cert.Proof

/-- The call's result is the reference's. -/
theorem algebraic_AttnInDx : Cert.algebraic_AttnInDxIdeal_AttnInDxRefIdeal := by
  pair_intro
  · run_from Cert.AttnInDxIdeal.Gen.run_main m g
  · run_from Cert.AttnInDxRefIdeal.Value.run m' g'
    exact (Cert.AttnInDxIdeal.Product.final m c).symm

end Cert.Proof

end
-- ==== Proof.SsmInDxProduct.lean ====
module

public import proofs.«01_k».proof.Defs
public import proofs.«01_k».proof.Proof.Gen.SsmInDxIdeal.Value
public import proofs.«01_k».proof.Proof.Gen.SsmInDxRefIdeal.Read
public import proofs.«01_k».proof.Proof.Gen.SsmInDxRefIdeal.Run
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmInDxIdeal.Product

open Cert.SsmInDxIdeal Cert.SsmInDxIdeal.Gen

variable (m : (ℓ : Loc nD τ sig) → Buf (Elt Ideal) ℓ)

/-- The block each window holds at a grid point. -/
theorem idx : ∀ t : Fin cfg0.N, win0_0.index t = ![t.val / 8, t.val % 2] ∧ win0_1.index t = ![t.val % 2, t.val / 2 % 4, 0] ∧ win0_2.index t = ![t.val / 8, t.val / 2 % 4] :=
  (by decide +kernel : ∀ t : Fin grid0.N, _)

/-- A product of two ideal values. -/
abbrev mul (a b : EReal) : EReal := a * b

/-- The product of the two blocks of one grid step. -/
def part (c : Dev nD) (t : Fin cfg0.N) (y : S1024x1024.Idx) : EReal :=
  (∑ x : Fin 1024, mul (iblk m c 0 t (ix2 (y 0) ⟨x.val, by omega⟩)) (iblk m c 1 t (ix3 0 (y 1) x))) +
    (∑ x : Fin 1024, mul (iblk m c 0 t (ix2 (y 0) ⟨1024 + x.val, by omega⟩)) (iblk m c 1 t (ix3 1 (y 1) x))) +
    (∑ x : Fin 1024, mul (iblk m c 0 t (ix2 (y 0) ⟨2048 + x.val, by omega⟩)) (iblk m c 1 t (ix3 2 (y 1) x))) +
    (∑ x : Fin 1024, mul (iblk m c 0 t (ix2 (y 0) ⟨3072 + x.val, by omega⟩)) (iblk m c 1 t (ix3 3 (y 1) x)))

/-- The scratch after the first step of a block. -/
theorem first (c : Dev nD) (t : Fin cfg0.N) (h : t.val % 2 = 0) (y) :
    (outsAt0 m c t.val t.isLt).2 y = part m c t y := by
  rw [outsAt0_A m c t h (by omega)]
  frame_out
  pointwise [k0_pay4, k0_pay1, k0_pay3, k0_pay2]
  rfl

/-- What the last step of a block stores. -/
theorem last (c : Dev nD) (t : Fin cfg0.N) (h : t.val % 2 = 1) (y) :
    (outsAt0 m c t.val t.isLt).1 y = (outsAt0 m c (t.val - 1) (by omega)).2 y + part m c t y := by
  rw [outsAt0_B m c t (by omega) h]
  frame_out
  pointwise [k0_pay2, k0_pay1, k0_pay3, read_unread_whole]
  rfl

/-- What is stored, as the sum of all steps' products. -/
theorem total (c : Dev nD) (t : Fin cfg0.N) (h : t.val % 2 = 1) (y) :
    (outsAt0 m c t.val t.isLt).1 y = part m c ⟨t.val - 1, by omega⟩ y + part m c t y := by
  rw [last m c t h]
  rw [show (outsAt0 m c (t.val - 1) _).2 y = _ from first m c ⟨t.val - 1, by omega⟩ (by dsimp only; omega) y]

/-- One head's product in the reference, at the place of the block stored at `t`. -/
def term (c : Dev nD) (t : Fin cfg0.N) (y : S1024x1024.Idx) (j : Fin 8) : EReal :=
  ∑ x : Fin 1024, mul (m ((c : Thread nD τ).loc main_arg0) (ix2 (((cfg0.win 2).blk t).view.emb y 0) ⟨j.val * 1024 + x.val, by omega⟩))
    (m ((c : Thread nD τ).loc main_arg1) (ix3 j (((cfg0.win 2).blk t).view.emb y 1) x))

/-- A step's product is that of the heads it reads. -/
theorem part_eq (c : Dev nD) (t s : Fin cfg0.N) (hs : s.val / 2 = t.val / 2) (a : Fin 2) (ha : s.val % 2 = a.val) (y) :
    part m c s y = term m c t y ⟨4 * a.val + 0, by omega⟩ + term m c t y ⟨4 * a.val + 1, by omega⟩ + term m c t y ⟨4 * a.val + 2, by omega⟩ + term m c t y ⟨4 * a.val + 3, by omega⟩ := by
  have hst : s.val / 2 % 4 = t.val / 2 % 4 := by rw [hs]
  have hsm : s.val / (4 * 2) = t.val / (4 * 2) := by omega
  dsimp only [part, term, mul]
  congr 1
  · congr 1
    · congr 1
      all_goals
        refine Fin.sum_fin_congr fun x => ?_
        blk_point [iblk, V, idx s, idx t, ha]
    · refine Fin.sum_fin_congr fun x => ?_
      blk_point [iblk, V, idx s, idx t, ha]
  · refine Fin.sum_fin_congr fun x => ?_
    blk_point [iblk, V, idx s, idx t, ha]

/-- The result array after the run. -/
theorem final (c : Dev nD) : (dats m 0 c).arrAt 2 (cfgs 0).N
    = Cert.SsmInDxRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h : t.val % 2 = 1 := (by decide +kernel : ∀ t : Fin grid0.N, ((cfgs 0).win 2).flush t = true → t.val % 2 = 1) t hf
  have ht : t.val < cfg0.N := t.isLt
  blk_simp
  rw [after0_2]
  refine (total m c t h y).trans ?_
  rw [part_eq m c t ⟨t.val - 1, by omega⟩ (by dsimp only; omega) 0 (by dsimp only; omega) y, part_eq m c t t rfl 1 h y]
  pointwise [Cert.SsmInDxRefIdeal.Read.val_main_v6,Cert.SsmInDxRefIdeal.Read.val_main_v5,Cert.SsmInDxRefIdeal.Read.val_main_v4,Cert.SsmInDxRefIdeal.Read.val_main_v1]
  rw [Fin.sum_univ_eight]
  simp only [← add_assoc]
  rfl

end Cert.SsmInDxIdeal.Product

namespace Cert.Proof

/-- The call's result is the reference's. -/
theorem algebraic_SsmInDx : Cert.algebraic_SsmInDxIdeal_SsmInDxRefIdeal := by
  pair_intro
  · run_from Cert.SsmInDxIdeal.Gen.run_main m g
  · run_from Cert.SsmInDxRefIdeal.Value.run m' g'
    exact (Cert.SsmInDxIdeal.Product.final m c).symm

end Cert.Proof

end
-- ==== Proof.AttnOutDxProduct.lean ====
module

public import proofs.«01_k».proof.Defs
public import proofs.«01_k».proof.Proof.Gen.AttnOutDxIdeal.Value
public import proofs.«01_k».proof.Proof.Gen.AttnOutDxRefIdeal.Read
public import proofs.«01_k».proof.Proof.Gen.AttnOutDxRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOutDxIdeal.Product

open Cert.AttnOutDxIdeal Cert.AttnOutDxIdeal.Gen

variable (m : (ℓ : Loc nD τ sig) → Buf (Elt Ideal) ℓ)

/-- The block each window holds at a grid point. -/
theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.AttnOutDxRefIdeal.Read.val_main_v8 (F := Ideal) (m ((c : Thread nD τ).loc main_arg0)) (m ((c : Thread nD τ).loc main_arg1)) (((cfg0.win 2).blk t).view.emb y) := by
  pointwise [k0_pay1, Cert.AttnOutDxRefIdeal.Read.val_main_v8, Cert.AttnOutDxRefIdeal.Read.val_main_v7, Cert.AttnOutDxRefIdeal.Read.val_main_v6, Cert.AttnOutDxRefIdeal.Read.val_main_v5, Cert.AttnOutDxRefIdeal.Read.val_main_v2]
  simp only [Finset.univ_unique, Fin.default_eq_zero, Finset.sum_singleton]
  blk_point [iblk, V, idx t]

/-- The result array after the run. -/
theorem final (c : Dev nD) : (dats m 0 c).arrAt 2 (cfgs 0).N
    = Cert.AttnOutDxRefIdeal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.AttnOutDxIdeal.Product

namespace Cert.Proof

/-- The call's result is the reference's. -/
theorem algebraic_AttnOutDx : Cert.algebraic_AttnOutDxIdeal_AttnOutDxRefIdeal := by
  pair_intro
  · run_from Cert.AttnOutDxIdeal.Gen.run_main m g
  · run_from Cert.AttnOutDxRefIdeal.Value.run m' g'
    exact (Cert.AttnOutDxIdeal.Product.final m c).symm

end Cert.Proof

end
-- ==== Proof.SsmOutDxProduct.lean ====
module

public import proofs.«01_k».proof.Defs
public import proofs.«01_k».proof.Proof.Gen.SsmOutDxIdeal.Value
public import proofs.«01_k».proof.Proof.Gen.SsmOutDxRefIdeal.Read
public import proofs.«01_k».proof.Proof.Gen.SsmOutDxRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmOutDxIdeal.Product

open Cert.SsmOutDxIdeal Cert.SsmOutDxIdeal.Gen

variable (m : (ℓ : Loc nD τ sig) → Buf (Elt Ideal) ℓ)

/-- The block each window holds at a grid point. -/
theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.SsmOutDxRefIdeal.Read.val_main_v6 (F := Ideal) (m ((c : Thread nD τ).loc main_arg0)) (m ((c : Thread nD τ).loc main_arg1)) (((cfg0.win 2).blk t).view.emb y) := by
  pointwise [k0_pay1, Cert.SsmOutDxRefIdeal.Read.val_main_v6, Cert.SsmOutDxRefIdeal.Read.val_main_v5, Cert.SsmOutDxRefIdeal.Read.val_main_v4, Cert.SsmOutDxRefIdeal.Read.val_main_v1]
  simp only [Finset.univ_unique, Fin.default_eq_zero, Finset.sum_singleton]
  blk_point [iblk, V, idx t]

/-- The result array after the run. -/
theorem final (c : Dev nD) : (dats m 0 c).arrAt 2 (cfgs 0).N
    = Cert.SsmOutDxRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.SsmOutDxIdeal.Product

namespace Cert.Proof

/-- The call's result is the reference's. -/
theorem algebraic_SsmOutDx : Cert.algebraic_SsmOutDxIdeal_SsmOutDxRefIdeal := by
  pair_intro
  · run_from Cert.SsmOutDxIdeal.Gen.run_main m g
  · run_from Cert.SsmOutDxRefIdeal.Value.run m' g'
    exact (Cert.SsmOutDxIdeal.Product.final m c).symm

end Cert.Proof

end
-- ==== Proof.AttnInProduct.lean ====
module

public import proofs.«01_k».proof.Defs
public import proofs.«01_k».proof.Proof.Gen.AttnInIdeal.Value
public import proofs.«01_k».proof.Proof.Gen.AttnInRefIdeal.Read
public import proofs.«01_k».proof.Proof.Gen.AttnInRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnInIdeal.Product

open Cert.AttnInIdeal Cert.AttnInIdeal.Gen

variable (m : (ℓ : Loc nD τ sig) → Buf (Elt Ideal) ℓ)

/-- The block each window holds at a grid point. -/
theorem idx : ∀ t : Fin cfg0.N, win0_0.index t = ![t.val / 2 % 4, 0] ∧ win0_1.index t = ![t.val / 8, 0, t.val % 2] ∧ win0_2.index t = ![t.val / 2 % 4, t.val / 8 * 2 + t.val % 2] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.AttnInRefIdeal.Read.val_main_v4 (F := Ideal) (m ((c : Thread nD τ).loc main_arg0)) (m ((c : Thread nD τ).loc main_arg1)) (((cfg0.win 2).blk t).view.emb y) := by
  pointwise [k0_pay1, Cert.AttnInRefIdeal.Read.val_main_v4, Cert.AttnInRefIdeal.Read.val_main_v3, Cert.AttnInRefIdeal.Read.val_main_v2, Cert.AttnInRefIdeal.Read.val_main_v1, Cert.AttnInRefIdeal.Read.val_main_v0]
  blk_point [iblk, V, idx t]

/-- The result array after the run. -/
theorem final (c : Dev nD) : (dats m 0 c).arrAt 2 (cfgs 0).N
    = Cert.AttnInRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.AttnInIdeal.Product

namespace Cert.Proof

/-- The call's result is the reference's. -/
theorem algebraic_AttnIn : Cert.algebraic_AttnInIdeal_AttnInRefIdeal := by
  pair_intro
  · run_from Cert.AttnInIdeal.Gen.run_main m g
  · run_from Cert.AttnInRefIdeal.Value.run m' g'
    exact (Cert.AttnInIdeal.Product.final m c).symm

end Cert.Proof

end
-- ==== Proof.SsmInProduct.lean ====
module

public import proofs.«01_k».proof.Defs
public import proofs.«01_k».proof.Proof.Gen.SsmInIdeal.Value
public import proofs.«01_k».proof.Proof.Gen.SsmInRefIdeal.Read
public import proofs.«01_k».proof.Proof.Gen.SsmInRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmInIdeal.Product

open Cert.SsmInIdeal Cert.SsmInIdeal.Gen

variable (m : (ℓ : Loc nD τ sig) → Buf (Elt Ideal) ℓ)

/-- The block each window holds at a grid point. -/
theorem idx : ∀ t : Fin cfg0.N, win0_0.index t = ![t.val % 4, 0] ∧ win0_1.index t = ![t.val / 4, 0, 0] ∧ win0_2.index t = ![t.val % 4, t.val / 4] :=
  (by decide +kernel : ∀ t : Fin grid0.N, _)

/-- What a grid point stores is the reference's product, read at the block's place. -/
theorem point (c : Dev nD) (t : Fin cfg0.N) (y) : k0_pay1 (iblk m c 0 t) (iblk m c 1 t) y
    = Cert.SsmInRefIdeal.Read.val_main_v4 (F := Ideal) (m ((c : Thread nD τ).loc main_arg0)) (m ((c : Thread nD τ).loc main_arg1)) (((cfg0.win 2).blk t).view.emb y) := by
  pointwise [k0_pay1, Cert.SsmInRefIdeal.Read.val_main_v4, Cert.SsmInRefIdeal.Read.val_main_v3, Cert.SsmInRefIdeal.Read.val_main_v2, Cert.SsmInRefIdeal.Read.val_main_v1, Cert.SsmInRefIdeal.Read.val_main_v0]
  blk_point [iblk, V, idx t]

/-- The result array after the run. -/
theorem final (c : Dev nD) : (dats m 0 c).arrAt 2 (cfgs 0).N
    = Cert.SsmInRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.SsmInIdeal.Product

namespace Cert.Proof

/-- The call's result is the reference's. -/
theorem algebraic_SsmIn : Cert.algebraic_SsmInIdeal_SsmInRefIdeal := by
  pair_intro
  · run_from Cert.SsmInIdeal.Gen.run_main m g
  · run_from Cert.SsmInRefIdeal.Value.run m' g'
    exact (Cert.SsmInIdeal.Product.final m c).symm

end Cert.Proof

end
-- ==== Proof.AttnOutProduct.lean ====
module

public import proofs.«01_k».proof.Defs
public import proofs.«01_k».proof.Proof.Gen.AttnOutIdeal.Value
public import proofs.«01_k».proof.Proof.Gen.AttnOutRefIdeal.Read
public import proofs.«01_k».proof.Proof.Gen.AttnOutRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOutIdeal.Product

open Cert.AttnOutIdeal Cert.AttnOutIdeal.Gen

variable (m : (ℓ : Loc nD τ sig) → Buf (Elt Ideal) ℓ)

/-- The block each window holds at a grid point. -/
theorem idx : ∀ t : Fin cfg0.N, win0_0.index t = ![t.val / 4, 0] ∧ win0_1.index t = ![0, 0, t.val % 4] ∧ win0_2.index t = ![t.val / 4, t.val % 4] ∧ win0_3.index t = ![t.val / 4, t.val % 4] :=
  (by decide +kernel : ∀ t : Fin grid0.N, _)

/-- What a grid point stores is the reference's product, read at the block's place. -/
theorem point (c : Dev nD) (t : Fin cfg0.N) (y) : k0_pay1 (iblk m c 0 t) (iblk m c 1 t) (iblk m c 2 t) y
    = Cert.AttnOutRefIdeal.Read.val_main_v4 (F := Ideal) (m ((c : Thread nD τ).loc main_arg0)) (m ((c : Thread nD τ).loc main_arg1)) (m ((c : Thread nD τ).loc main_arg2)) (((cfg0.win 3).blk t).view.emb y) := by
  pointwise [k0_pay1, Cert.AttnOutRefIdeal.Read.val_main_v4, Cert.AttnOutRefIdeal.Read.val_main_v3, Cert.AttnOutRefIdeal.Read.val_main_v2, Cert.AttnOutRefIdeal.Read.val_main_v1, Cert.AttnOutRefIdeal.Read.val_main_v0]
  blk_point [iblk, V, idx t]

/-- The result array after the run. -/
theorem final (c : Dev nD) : (dats m 0 c).arrAt 3 (cfgs 0).N
    = Cert.AttnOutRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

end Cert.AttnOutIdeal.Product

namespace Cert.Proof

/-- The call's result is the reference's. -/
theorem algebraic_AttnOut : Cert.algebraic_AttnOutIdeal_AttnOutRefIdeal := by
  pair_intro
  · run_from Cert.AttnOutIdeal.Gen.run_main m g
  · run_from Cert.AttnOutRefIdeal.Value.run m' g'
    exact (Cert.AttnOutIdeal.Product.final m c).symm

end Cert.Proof

end
-- ==== Proof.KernelIdealAttnBody.lean ====
/- The backward attention call: when each conditional of its body is taken, the buffers the body is handed at a point,
   and what a run of the body is asked to show: pieces written into each output's and each scratch's buffer. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body's conditional 0, from the grid coordinates. -/
abbrev cond0 (i : grid0.Coords) : Prop := k0_cond1 i = 1#1
/-- It is taken at the first point. -/
theorem cond0_iff : ∀ t : Fin cfg0.N, cond0 (grid0.coords t) ↔ t.val = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond0, k0_cond1, e0, e1, e2]
    word_cmp
   : ∀ t : Fin grid0.N, cond0 (grid0.coords t) ↔ t.val = 0)

/-- The body's conditional 1, from the grid coordinates. -/
abbrev cond1 (i : grid0.Coords) : Prop := k0_cond2 i = 1#1
/-- It is taken at the first query block of a pair of heads. -/
theorem cond1_iff : ∀ t : Fin cfg0.N, cond1 (grid0.coords t) ↔ t.val % 8 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond1, k0_cond2, e0, e1, e2]
    word_cmp
   : ∀ t : Fin grid0.N, cond1 (grid0.coords t) ↔ t.val % 8 = 0)

/-- The body's conditional 2, from the grid coordinates. -/
abbrev cond2 (i : grid0.Coords) : Prop := k0_cond3 i = 1#1
/-- It is taken at the last query block of a pair of heads. -/
theorem cond2_iff : ∀ t : Fin cfg0.N, cond2 (grid0.coords t) ↔ t.val % 8 = 7 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond2, k0_cond3, e0, e1, e2]
    word_cmp
   : ∀ t : Fin grid0.N, cond2 (grid0.coords t) ↔ t.val % 8 = 7)

abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2x1x8x256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2x1x8x256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x256 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S2048x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev sc0 : Memref sig .tc .vmem S2048x256 .bf16 := Memref.whole cc0_scratch0
abbrev hsc0 : (sc0).IsWhole := Memref.isWhole_whole _
abbrev sc1 : Memref sig .tc .vmem S2048x256 .bf16 := Memref.whole cc0_scratch1
abbrev hsc1 : (sc1).IsWhole := Memref.isWhole_whole _
abbrev sc2 : Memref sig .tc .vmem S2048x256 .bf16 := Memref.whole cc0_scratch2
abbrev hsc2 : (sc2).IsWhole := Memref.isWhole_whole _
abbrev sc3 : Memref sig .tc .vmem S2048x256 .f32 := Memref.whole cc0_scratch3
abbrev hsc3 : (sc3).IsWhole := Memref.isWhole_whole _
abbrev sc4 : Memref sig .tc .vmem S2048x256 .f32 := Memref.whole cc0_scratch4
abbrev hsc4 : (sc4).IsWhole := Memref.isWhole_whole _

/-- What holds of the scratch buffers between kernels: each at some contents, and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- A whole buffer that holds `x`, as the one buffer that reads as `x`. -/
theorem owns_unread (c : Dev nD) {sh : Shape} {e : EltTy} {a : Memref sig .tc .vmem sh e} (h : a.IsWhole) (x : sh.Idx → Elt F e) :
    (owns (c : Thread nD τ) a fullShare x : sProp 𝕄) ⊢ (a.view.loc (c : Thread nD τ) ↦[a.view.set]{fullShare} h.unread x) := by
  unfold owns
  iintro ⟨%f, %hf, H⟩
  obtain rfl := h.eq_unread hf
  iexact H

/-- The buffer that reads as `x`, as a whole buffer that holds `x`. -/
theorem unread_owns (c : Dev nD) {sh : Shape} {e : EltTy} {a : Memref sig .tc .vmem sh e} (h : a.IsWhole) (x : sh.Idx → Elt F e) :
    (a.view.loc (c : Thread nD τ) ↦[a.view.set]{fullShare} h.unread x) ⊢ (owns (c : Thread nD τ) a fullShare x : sProp 𝕄) := by
  unfold owns
  iintro H
  iexists _; isplitr; swap; · iexact H
  ipureintro; exact h.read_unread _

/-- What pieces are written over: any contents, of a buffer that was written whole (`j`), or those that it held. -/
abbrev base {sh : Shape} {e : EltTy} {a : Memref sig .tc .vmem sh e} (h : a.IsWhole) (x : sh.Idx → Elt F e) (j : Bool) : a.view.ty.Contents (Elt F) :=
  cond j a.view.junk (h.unread x)

/-- The pieces a run of the body writes into the outputs' buffers (10 to 15) and the scratch buffers (16 to 20), last
    first, and which of these buffers it wrote whole on the way. -/
structure Pieces (F : FTy → Type) where
  L10 : List (View.Piece (Elt F) S256x256 .bf16)
  L11 : List (View.Piece (Elt F) S2048x256 .bf16)
  L12 : List (View.Piece (Elt F) S2048x256 .bf16)
  L13 : List (View.Piece (Elt F) S2048x256 .bf16)
  L14 : List (View.Piece (Elt F) S1x128 .f32)
  L15 : List (View.Piece (Elt F) S1x128 .f32)
  L16 : List (View.Piece (Elt F) S2048x256 .bf16)
  L17 : List (View.Piece (Elt F) S2048x256 .bf16)
  L18 : List (View.Piece (Elt F) S2048x256 .bf16)
  L19 : List (View.Piece (Elt F) S2048x256 .f32)
  L20 : List (View.Piece (Elt F) S2048x256 .f32)
  J10 : Bool
  J11 : Bool
  J12 : Bool
  J13 : Bool
  J14 : Bool
  J15 : Bool
  J16 : Bool
  J17 : Bool
  J18 : Bool
  J19 : Bool
  J20 : Bool

/-- The body runs on whole buffers holding `x0` to `x20`, and writes the pieces `P` over the last eleven of them. -/
def Runs (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole)
    (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) (P : Pieces F) : Prop :=
  ∀ (E : Set ℕ) (K : PUnit → sProp 𝕄),
    iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread x13) ∗ (arg17.view.loc (c : Thread nD τ) ↦[arg17.view.set]{fullShare} harg17.unread x14) ∗ (arg18.view.loc (c : Thread nD τ) ↦[arg18.view.set]{fullShare} harg18.unread x15) ∗ (arg19.view.loc (c : Thread nD τ) ↦[arg19.view.set]{fullShare} harg19.unread x16) ∗ (arg20.view.loc (c : Thread nD τ) ↦[arg20.view.set]{fullShare} harg20.unread x17) ∗ (arg21.view.loc (c : Thread nD τ) ↦[arg21.view.set]{fullShare} harg21.unread x18) ∗ (arg22.view.loc (c : Thread nD τ) ↦[arg22.view.set]{fullShare} harg22.unread x19) ∗ (arg23.view.loc (c : Thread nD τ) ↦[arg23.view.set]{fullShare} harg23.unread x20)
        ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} arg13.view.writes (Elt F) (base harg13 x10 P.J10) P.L10) ∗ (arg14.view.loc (c : Thread nD τ) ↦[arg14.view.set]{fullShare} arg14.view.writes (Elt F) (base harg14 x11 P.J11) P.L11) ∗ (arg15.view.loc (c : Thread nD τ) ↦[arg15.view.set]{fullShare} arg15.view.writes (Elt F) (base harg15 x12 P.J12) P.L12) ∗ (arg16.view.loc (c : Thread nD τ) ↦[arg16.view.set]{fullShare} arg16.view.writes (Elt F) (base harg16 x13 P.J13) P.L13) ∗ (arg17.view.loc (c : Thread nD τ) ↦[arg17.view.set]{fullShare} arg17.view.writes (Elt F) (base harg17 x14 P.J14) P.L14) ∗ (arg18.view.loc (c : Thread nD τ) ↦[arg18.view.set]{fullShare} arg18.view.writes (Elt F) (base harg18 x15 P.J15) P.L15) ∗ (arg19.view.loc (c : Thread nD τ) ↦[arg19.view.set]{fullShare} arg19.view.writes (Elt F) (base harg19 x16 P.J16) P.L16) ∗ (arg20.view.loc (c : Thread nD τ) ↦[arg20.view.set]{fullShare} arg20.view.writes (Elt F) (base harg20 x17 P.J17) P.L17) ∗ (arg21.view.loc (c : Thread nD τ) ↦[arg21.view.set]{fullShare} arg21.view.writes (Elt F) (base harg21 x18 P.J18) P.L18) ∗ (arg22.view.loc (c : Thread nD τ) ↦[arg22.view.set]{fullShare} arg22.view.writes (Elt F) (base harg22 x19 P.J19) P.L19) ∗ (arg23.view.loc (c : Thread nD τ) ↦[arg23.view.set]{fullShare} arg23.view.writes (Elt F) (base harg23 x20 P.J20) P.L20)) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K

end Cert.KernelIdeal.Attn

end
-- ==== Proof.KernelIdealAttnRunA.lean ====
/- The body of the backward attention call run at the first point: the pieces that it writes. -/
module

public import proofs.«01_k».proof.Proof.KernelIdealAttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 6400000 in
/-- The body's run at the first point: the pieces that it writes, found by executing it. -/
def runA (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole)
    (hc0 : cond0 i) (hc1 : cond1 i) (hc2 : ¬cond2 i)
    (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) : { P : Pieces F // Runs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 P } := by
  refine ⟨⟨?_, [], [], ?_, ?_, ?_, ?_, ?_, ?_, ?_, ?_, false, false, false, true, true, true, true, true, true, true, true⟩, fun E K => ?run⟩
  case run =>
    dsimp only [base, cond]
    iintro ⟨H0, H1, H2, H3, H4, H5, H6, H7, H8, H9, H10, H11, H12, H13, H14, H15, H16, H17, H18, H19, H20, Hk⟩
    simp only [cc0_attn_bwd_eq_skeleton]; unfold cc0_attn_bwd_skel
    simp only [k0_part9_eq_skeleton, k0_part3_eq_skeleton, k0_part1_eq_skeleton, k0_part2_eq_skeleton, k0_part10_eq_skeleton, k0_part11_eq_skeleton, k0_part12_eq_skeleton, k0_part13_eq_skeleton]
    sl_exec_parts (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Attn

end
-- ==== Proof.KernelIdealAttnRunB.lean ====
/- The body of the backward attention call run at a query block that is neither first nor last: the pieces that it writes. -/
module

public import proofs.«01_k».proof.Proof.KernelIdealAttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 6400000 in
/-- The body's run at a query block that is neither first nor last: the pieces that it writes, found by executing it. -/
def runB (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole)
    (hc0 : ¬cond0 i) (hc1 : ¬cond1 i) (hc2 : ¬cond2 i)
    (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) : { P : Pieces F // Runs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 P } := by
  refine ⟨⟨?_, [], [], [], ?_, [], [], [], [], ?_, ?_, false, false, false, false, false, false, false, false, false, false, false⟩, fun E K => ?run⟩
  case run =>
    dsimp only [base, cond]
    iintro ⟨H0, H1, H2, H3, H4, H5, H6, H7, H8, H9, H10, H11, H12, H13, H14, H15, H16, H17, H18, H19, H20, Hk⟩
    simp only [cc0_attn_bwd_eq_skeleton]; unfold cc0_attn_bwd_skel
    simp only [k0_part9_eq_skeleton, k0_part10_eq_skeleton, k0_part11_eq_skeleton, k0_part12_eq_skeleton, k0_part13_eq_skeleton]
    sl_exec_parts (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Attn

end
-- ==== Proof.KernelIdealAttnRunC.lean ====
/- The body of the backward attention call run at the last query block: the pieces that it writes. -/
module

public import proofs.«01_k».proof.Proof.KernelIdealAttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 6400000 in
/-- The body's run at the last query block: the pieces that it writes, found by executing it. -/
def runC (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole)
    (hc0 : ¬cond0 i) (hc1 : ¬cond1 i) (hc2 : cond2 i)
    (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) : { P : Pieces F // Runs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 P } := by
  refine ⟨⟨?_, ?_, ?_, [], ?_, ?_, [], [], [], ?_, ?_, false, false, false, false, false, false, false, false, false, false, false⟩, fun E K => ?run⟩
  case run =>
    dsimp only [base, cond]
    iintro ⟨H0, H1, H2, H3, H4, H5, H6, H7, H8, H9, H10, H11, H12, H13, H14, H15, H16, H17, H18, H19, H20, Hk⟩
    simp only [cc0_attn_bwd_eq_skeleton]; unfold cc0_attn_bwd_skel
    simp only [k0_part9_eq_skeleton, k0_part10_eq_skeleton, k0_part11_eq_skeleton, k0_part12_eq_skeleton, k0_part13_eq_skeleton, k0_part8_eq_skeleton]
    sl_exec_parts (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Attn

end
-- ==== Proof.KernelIdealAttnRunD.lean ====
/- The body of the backward attention call run at the first query block of a later pair of heads: the pieces that it writes. -/
module

public import proofs.«01_k».proof.Proof.KernelIdealAttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 6400000 in
/-- The body's run at the first query block of a later pair of heads: the pieces that it writes, found by executing it. -/
def runD (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole)
    (hc0 : ¬cond0 i) (hc1 : cond1 i) (hc2 : ¬cond2 i)
    (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) : { P : Pieces F // Runs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 P } := by
  refine ⟨⟨?_, [], [], ?_, ?_, [], ?_, ?_, ?_, ?_, ?_, false, false, false, true, false, false, true, true, true, true, true⟩, fun E K => ?run⟩
  case run =>
    dsimp only [base, cond]
    iintro ⟨H0, H1, H2, H3, H4, H5, H6, H7, H8, H9, H10, H11, H12, H13, H14, H15, H16, H17, H18, H19, H20, Hk⟩
    simp only [cc0_attn_bwd_eq_skeleton]; unfold cc0_attn_bwd_skel
    simp only [k0_part9_eq_skeleton, k0_part3_eq_skeleton, k0_part1_eq_skeleton, k0_part2_eq_skeleton, k0_part10_eq_skeleton, k0_part11_eq_skeleton, k0_part12_eq_skeleton, k0_part13_eq_skeleton]
    sl_exec_parts (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Attn

end
-- ==== Proof.KernelIdealAttnLaunch.lean ====
/- The backward attention call run to its end: for any statement about the scratch buffers and the outputs that one point
   of the grid carries to the next (`Track.Step`), every execution of the program ends, with that statement of its outputs. -/
module

public import proofs.«01_k».proof.Proof.KernelIdealAttnRunA
public import proofs.«01_k».proof.Proof.KernelIdealAttnRunB
public import proofs.«01_k».proof.Proof.KernelIdealAttnRunC
public import proofs.«01_k».proof.Proof.KernelIdealAttnRunD
public import Idealize.ShloMosaic.Lib.Pipeline.FrameBody
public import Idealize.ShloMosaic.Lib.Pipeline.ArrRel

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a whole buffer holds once the pieces `L` are written over `x`. -/
abbrev left {s : Shape} {e : EltTy} (M : Memref sig .tc .vmem s e) (h : M.IsWhole) (x : Vec F s e) (j : Bool) (L : List (View.Piece (Elt F) s e)) : Vec F s e :=
  M.view.read (Elt F) (M.view.writes (Elt F) (base h x j) L)

/-- The pieces that the body writes at point `t`, by the case of the point. -/
def pieces (c : Dev nD) (t : Fin cfg0.N) (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) : Pieces F :=
  if h0 : t.val = 0 then
    (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 ((cond0_iff t).2 h0) ((cond1_iff t).2 (by omega)) (fun h => by have := (cond2_iff t).1 h; omega) x0 x1 x2 x3 x4 x5 x6 x7 x8 x9 x10 x11 x12 x13 x14 x15 x16 x17 x18 x19 x20).1
  else if h1 : t.val % 8 = 0 then
    (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) ((cond1_iff t).2 h1) (fun h => by have := (cond2_iff t).1 h; omega) x0 x1 x2 x3 x4 x5 x6 x7 x8 x9 x10 x11 x12 x13 x14 x15 x16 x17 x18 x19 x20).1
  else if h2 : t.val % 8 = 7 then
    (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) ((cond2_iff t).2 h2) x0 x1 x2 x3 x4 x5 x6 x7 x8 x9 x10 x11 x12 x13 x14 x15 x16 x17 x18 x19 x20).1
  else
    (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) (fun h => h2 ((cond2_iff t).1 h)) x0 x1 x2 x3 x4 x5 x6 x7 x8 x9 x10 x11 x12 x13 x14 x15 x16 x17 x18 x19 x20).1

theorem runs_pieces (c : Dev nD) (t : Fin cfg0.N) (x0 : Vec F S2048x256 .bf16) (x1 : Vec F S2048x256 .bf16) (x2 : Vec F S2048x256 .bf16) (x3 : Vec F S2048x256 .bf16) (x4 : Vec F S2048x256 .bf16) (x5 : Vec F S2048x256 .bf16) (x6 : Vec F S1x2x1x8x256x256 .bf16) (x7 : Vec F S1x2x1x8x256x256 .bf16) (x8 : Vec F S1x128 .f32) (x9 : Vec F S1x128 .f32) (x10 : Vec F S256x256 .bf16) (x11 : Vec F S2048x256 .bf16) (x12 : Vec F S2048x256 .bf16) (x13 : Vec F S2048x256 .bf16) (x14 : Vec F S1x128 .f32) (x15 : Vec F S1x128 .f32) (x16 : Vec F S2048x256 .bf16) (x17 : Vec F S2048x256 .bf16) (x18 : Vec F S2048x256 .bf16) (x19 : Vec F S2048x256 .f32) (x20 : Vec F S2048x256 .f32) :
    Runs c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 x0 x1 x2 x3 x4 x5 x6 x7 x8 x9 x10 x11 x12 x13 x14 x15 x16 x17 x18 x19 x20 (pieces c t x0 x1 x2 x3 x4 x5 x6 x7 x8 x9 x10 x11 x12 x13 x14 x15 x16 x17 x18 x19 x20) := by
  unfold pieces
  split
  · exact Subtype.property _
  · split
    · exact Subtype.property _
    · split
      · exact Subtype.property _
      · exact Subtype.property _

/-- A statement about the scratch buffers before point `n`, and about what the body leaves in each output's buffer at a
    point, given what it found there. -/
structure Track (F : FTy → Type) where
  st : Dev nD → ℕ → Vec F S2048x256 .bf16 → Vec F S2048x256 .bf16 → Vec F S2048x256 .bf16 → Vec F S2048x256 .f32 → Vec F S2048x256 .f32 → Prop
  a10 : Dev nD → Fin cfg0.N → (Y X : Vec F S256x256 .bf16) → Prop
  a11 : Dev nD → Fin cfg0.N → (Y X : Vec F S2048x256 .bf16) → Prop
  a12 : Dev nD → Fin cfg0.N → (Y X : Vec F S2048x256 .bf16) → Prop
  a13 : Dev nD → Fin cfg0.N → (Y X : Vec F S2048x256 .bf16) → Prop
  a14 : Dev nD → Fin cfg0.N → (Y X : Vec F S1x128 .f32) → Prop
  a15 : Dev nD → Fin cfg0.N → (Y X : Vec F S1x128 .f32) → Prop

variable (T : Track F)

/-- What holds before point `n`: the scratch buffers at contents of which the statement holds, and the generator's
    register. -/
def Inv (c : Dev nD) (n : ℕ) : sProp 𝕄 :=
  iprop(∃ s0 s1 s2 s3 s4, ⌜T.st c n s0 s1 s2 s3 s4⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ (∃ r, prngReg c r))

/-- The proof's data: the arrays as the region finds them, each input left as it was found, each output in its relation. -/
def rdat (c : Dev nD) : RDat τ (Elt F) Unit ℕ (UR sig nD τ) ℕ cfg0 c where
  A w := V m c (Pipeline.arrRef spec0 w)
  after w t Y X := (w.val < 10 → X = Y) ∧ (match w, Y, X with
    | ⟨0, _⟩, _, _ => True
    | ⟨1, _⟩, _, _ => True
    | ⟨2, _⟩, _, _ => True
    | ⟨3, _⟩, _, _ => True
    | ⟨4, _⟩, _, _ => True
    | ⟨5, _⟩, _, _ => True
    | ⟨6, _⟩, _, _ => True
    | ⟨7, _⟩, _, _ => True
    | ⟨8, _⟩, _, _ => True
    | ⟨9, _⟩, _, _ => True
    | ⟨10, _⟩, Y, X => T.a10 c t Y X
    | ⟨11, _⟩, Y, X => T.a11 c t Y X
    | ⟨12, _⟩, Y, X => T.a12 c t Y X
    | ⟨13, _⟩, Y, X => T.a13 c t Y X
    | ⟨14, _⟩, Y, X => T.a14 c t Y X
    | ⟨15, _⟩, Y, X => T.a15 c t Y X
    | ⟨_ + 16, h⟩, _, _ => absurd h (Nat.not_lt.2 (Nat.le_add_left _ _)))
  Φ t := Inv T c t.val
  q w := Pipeline.shareOf spec0 w
  owed _ := 0

theorem A_eq (c : Dev nD) (w : Fin cfg0.W) : (rdat m T c).A w = V m c (Pipeline.arrRef spec0 w) := by
  dsimp only [rdat]

theorem finds0 (c : Dev nD) (t : Fin cfg0.N) (Y) (h : (rdat m T c).Finds 0 t Y) : Y = iblk m c 0 t := by
  obtain ⟨d, hd⟩ := (rdat m T c).finds_in_eq_fetched 0 rfl (fun _ _ _ => rfl) (fun t Y X h => h.1 (by decide)) t Y h
  rw [hd]; unfold RDat.fetched RDat.blockOf iblk; rw [A_eq]; try rfl
theorem finds1 (c : Dev nD) (t : Fin cfg0.N) (Y) (h : (rdat m T c).Finds 1 t Y) : Y = iblk m c 1 t := by
  obtain ⟨d, hd⟩ := (rdat m T c).finds_in_eq_fetched 1 rfl (fun _ _ _ => rfl) (fun t Y X h => h.1 (by decide)) t Y h
  rw [hd]; unfold RDat.fetched RDat.blockOf iblk; rw [A_eq]; try rfl
theorem finds2 (c : Dev nD) (t : Fin cfg0.N) (Y) (h : (rdat m T c).Finds 2 t Y) : Y = iblk m c 2 t := by
  obtain ⟨d, hd⟩ := (rdat m T c).finds_in_eq_fetched 2 rfl (fun _ _ _ => rfl) (fun t Y X h => h.1 (by decide)) t Y h
  rw [hd]; unfold RDat.fetched RDat.blockOf iblk; rw [A_eq]; try rfl
theorem finds3 (c : Dev nD) (t : Fin cfg0.N) (Y) (h : (rdat m T c).Finds 3 t Y) : Y = iblk m c 3 t := by
  obtain ⟨d, hd⟩ := (rdat m T c).finds_in_eq_fetched 3 rfl (fun _ _ _ => rfl) (fun t Y X h => h.1 (by decide)) t Y h
  rw [hd]; unfold RDat.fetched RDat.blockOf iblk; rw [A_eq]; try rfl
theorem finds4 (c : Dev nD) (t : Fin cfg0.N) (Y) (h : (rdat m T c).Finds 4 t Y) : Y = iblk m c 4 t := by
  obtain ⟨d, hd⟩ := (rdat m T c).finds_in_eq_fetched 4 rfl (fun _ _ _ => rfl) (fun t Y X h => h.1 (by decide)) t Y h
  rw [hd]; unfold RDat.fetched RDat.blockOf iblk; rw [A_eq]; try rfl
theorem finds5 (c : Dev nD) (t : Fin cfg0.N) (Y) (h : (rdat m T c).Finds 5 t Y) : Y = iblk m c 5 t := by
  obtain ⟨d, hd⟩ := (rdat m T c).finds_in_eq_fetched 5 rfl (fun _ _ _ => rfl) (fun t Y X h => h.1 (by decide)) t Y h
  rw [hd]; unfold RDat.fetched RDat.blockOf iblk; rw [A_eq]; try rfl
theorem finds6 (c : Dev nD) (t : Fin cfg0.N) (Y) (h : (rdat m T c).Finds 6 t Y) : Y = iblk m c 6 t := by
  obtain ⟨d, hd⟩ := (rdat m T c).finds_in_eq_fetched 6 rfl (fun _ _ _ => rfl) (fun t Y X h => h.1 (by decide)) t Y h
  rw [hd]; unfold RDat.fetched RDat.blockOf iblk; rw [A_eq]; try rfl
theorem finds7 (c : Dev nD) (t : Fin cfg0.N) (Y) (h : (rdat m T c).Finds 7 t Y) : Y = iblk m c 7 t := by
  obtain ⟨d, hd⟩ := (rdat m T c).finds_in_eq_fetched 7 rfl (fun _ _ _ => rfl) (fun t Y X h => h.1 (by decide)) t Y h
  rw [hd]; unfold RDat.fetched RDat.blockOf iblk; rw [A_eq]; try rfl
theorem finds8 (c : Dev nD) (t : Fin cfg0.N) (Y) (h : (rdat m T c).Finds 8 t Y) : Y = iblk m c 8 t := by
  obtain ⟨d, hd⟩ := (rdat m T c).finds_in_eq_fetched 8 rfl (fun _ _ _ => rfl) (fun t Y X h => h.1 (by decide)) t Y h
  rw [hd]; unfold RDat.fetched RDat.blockOf iblk; rw [A_eq]; try rfl
theorem finds9 (c : Dev nD) (t : Fin cfg0.N) (Y) (h : (rdat m T c).Finds 9 t Y) : Y = iblk m c 9 t := by
  obtain ⟨d, hd⟩ := (rdat m T c).finds_in_eq_fetched 9 rfl (fun _ _ _ => rfl) (fun t Y X h => h.1 (by decide)) t Y h
  rw [hd]; unfold RDat.fetched RDat.blockOf iblk; rw [A_eq]; try rfl

/-- The statement is carried by the body from each point to the next. -/
def Track.Step : Prop :=
  ∀ (c : Dev nD) (t : Fin cfg0.N) (Y : (w : Fin cfg0.W) → (cfg0.win w).block.Idx → Elt F (cfg0.win w).elt) (s0 : Vec F S2048x256 .bf16) (s1 : Vec F S2048x256 .bf16) (s2 : Vec F S2048x256 .bf16) (s3 : Vec F S2048x256 .f32) (s4 : Vec F S2048x256 .f32),
    (∀ w, (rdat m T c).Finds w t (Y w)) → T.st c t.val s0 s1 s2 s3 s4 →
      T.st c (t.val + 1) (left sc0 hsc0 s0 (pieces c t (Y 0) (Y 1) (Y 2) (Y 3) (Y 4) (Y 5) (Y 6) (Y 7) (Y 8) (Y 9) (Y 10) (Y 11) (Y 12) (Y 13) (Y 14) (Y 15) s0 s1 s2 s3 s4).J16 (pieces c t (Y 0) (Y 1) (Y 2) (Y 3) (Y 4) (Y 5) (Y 6) (Y 7) (Y 8) (Y 9) (Y 10) (Y 11) (Y 12) (Y 13) (Y 14) (Y 15) s0 s1 s2 s3 s4).L16) (left sc1 hsc1 s1 (pieces c t (Y 0) (Y 1) (Y 2) (Y 3) (Y 4) (Y 5) (Y 6) (Y 7) (Y 8) (Y 9) (Y 10) (Y 11) (Y 12) (Y 13) (Y 14) (Y 15) s0 s1 s2 s3 s4).J17 (pieces c t (Y 0) (Y 1) (Y 2) (Y 3) (Y 4) (Y 5) (Y 6) (Y 7) (Y 8) (Y 9) (Y 10) (Y 11) (Y 12) (Y 13) (Y 14) (Y 15) s0 s1 s2 s3 s4).L17) (left sc2 hsc2 s2 (pieces c t (Y 0) (Y 1) (Y 2) (Y 3) (Y 4) (Y 5) (Y 6) (Y 7) (Y 8) (Y 9) (Y 10) (Y 11) (Y 12) (Y 13) (Y 14) (Y 15) s0 s1 s2 s3 s4).J18 (pieces c t (Y 0) (Y 1) (Y 2) (Y 3) (Y 4) (Y 5) (Y 6) (Y 7) (Y 8) (Y 9) (Y 10) (Y 11) (Y 12) (Y 13) (Y 14) (Y 15) s0 s1 s2 s3 s4).L18) (left sc3 hsc3 s3 (pieces c t (Y 0) (Y 1) (Y 2) (Y 3) (Y 4) (Y 5) (Y 6) (Y 7) (Y 8) (Y 9) (Y 10) (Y 11) (Y 12) (Y 13) (Y 14) (Y 15) s0 s1 s2 s3 s4).J19 (pieces c t (Y 0) (Y 1) (Y 2) (Y 3) (Y 4) (Y 5) (Y 6) (Y 7) (Y 8) (Y 9) (Y 10) (Y 11) (Y 12) (Y 13) (Y 14) (Y 15) s0 s1 s2 s3 s4).L19) (left sc4 hsc4 s4 (pieces c t (Y 0) (Y 1) (Y 2) (Y 3) (Y 4) (Y 5) (Y 6) (Y 7) (Y 8) (Y 9) (Y 10) (Y 11) (Y 12) (Y 13) (Y 14) (Y 15) s0 s1 s2 s3 s4).J20 (pieces c t (Y 0) (Y 1) (Y 2) (Y 3) (Y 4) (Y 5) (Y 6) (Y 7) (Y 8) (Y 9) (Y 10) (Y 11) (Y 12) (Y 13) (Y 14) (Y 15) s0 s1 s2 s3 s4).L20)
      ∧ T.a10 c t (Y 10) (left (ms10 t) (hs10 t) (Y 10) (pieces c t (Y 0) (Y 1) (Y 2) (Y 3) (Y 4) (Y 5) (Y 6) (Y 7) (Y 8) (Y 9) (Y 10) (Y 11) (Y 12) (Y 13) (Y 14) (Y 15) s0 s1 s2 s3 s4).J10 (pieces c t (Y 0) (Y 1) (Y 2) (Y 3) (Y 4) (Y 5) (Y 6) (Y 7) (Y 8) (Y 9) (Y 10) (Y 11) (Y 12) (Y 13) (Y 14) (Y 15) s0 s1 s2 s3 s4).L10) ∧ T.a11 c t (Y 11) (left (ms11 t) (hs11 t) (Y 11) (pieces c t (Y 0) (Y 1) (Y 2) (Y 3) (Y 4) (Y 5) (Y 6) (Y 7) (Y 8) (Y 9) (Y 10) (Y 11) (Y 12) (Y 13) (Y 14) (Y 15) s0 s1 s2 s3 s4).J11 (pieces c t (Y 0) (Y 1) (Y 2) (Y 3) (Y 4) (Y 5) (Y 6) (Y 7) (Y 8) (Y 9) (Y 10) (Y 11) (Y 12) (Y 13) (Y 14) (Y 15) s0 s1 s2 s3 s4).L11) ∧ T.a12 c t (Y 12) (left (ms12 t) (hs12 t) (Y 12) (pieces c t (Y 0) (Y 1) (Y 2) (Y 3) (Y 4) (Y 5) (Y 6) (Y 7) (Y 8) (Y 9) (Y 10) (Y 11) (Y 12) (Y 13) (Y 14) (Y 15) s0 s1 s2 s3 s4).J12 (pieces c t (Y 0) (Y 1) (Y 2) (Y 3) (Y 4) (Y 5) (Y 6) (Y 7) (Y 8) (Y 9) (Y 10) (Y 11) (Y 12) (Y 13) (Y 14) (Y 15) s0 s1 s2 s3 s4).L12) ∧ T.a13 c t (Y 13) (left (ms13 t) (hs13 t) (Y 13) (pieces c t (Y 0) (Y 1) (Y 2) (Y 3) (Y 4) (Y 5) (Y 6) (Y 7) (Y 8) (Y 9) (Y 10) (Y 11) (Y 12) (Y 13) (Y 14) (Y 15) s0 s1 s2 s3 s4).J13 (pieces c t (Y 0) (Y 1) (Y 2) (Y 3) (Y 4) (Y 5) (Y 6) (Y 7) (Y 8) (Y 9) (Y 10) (Y 11) (Y 12) (Y 13) (Y 14) (Y 15) s0 s1 s2 s3 s4).L13) ∧ T.a14 c t (Y 14) (left (ms14 t) (hs14 t) (Y 14) (pieces c t (Y 0) (Y 1) (Y 2) (Y 3) (Y 4) (Y 5) (Y 6) (Y 7) (Y 8) (Y 9) (Y 10) (Y 11) (Y 12) (Y 13) (Y 14) (Y 15) s0 s1 s2 s3 s4).J14 (pieces c t (Y 0) (Y 1) (Y 2) (Y 3) (Y 4) (Y 5) (Y 6) (Y 7) (Y 8) (Y 9) (Y 10) (Y 11) (Y 12) (Y 13) (Y 14) (Y 15) s0 s1 s2 s3 s4).L14) ∧ T.a15 c t (Y 15) (left (ms15 t) (hs15 t) (Y 15) (pieces c t (Y 0) (Y 1) (Y 2) (Y 3) (Y 4) (Y 5) (Y 6) (Y 7) (Y 8) (Y 9) (Y 10) (Y 11) (Y 12) (Y 13) (Y 14) (Y 15) s0 s1 s2 s3 s4).J15 (pieces c t (Y 0) (Y 1) (Y 2) (Y 3) (Y 4) (Y 5) (Y 6) (Y 7) (Y 8) (Y 9) (Y 10) (Y 11) (Y 12) (Y 13) (Y 14) (Y 15) s0 s1 s2 s3 s4).L15)

theorem defs₀_row (t : Fin cfg0.N) :
    defs₀ (F := F) .tc cfg0.body (cfg0.bodyArgs t (cfg0.slots t)) = bodyAt0 t := by
  unfold defs₀; rw [Defs.onTc_tc]

/-- The body at a point, on buffers holding what it may find there. -/
theorem body_sound (hT : T.Step m) (c : Dev nD) (t : Fin cfg0.N) (Y : (w : Fin cfg0.W) → (cfg0.win w).block.Idx → Elt F (cfg0.win w).elt)
    (hY : ∀ w, (rdat m T c).Finds w t (Y w)) :
    iprop(Inv T c t.val ∗ (rdat m T c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15))
      ⊢ wp frame (wpE (defs₀ (F := F)) Variants.none c none) Set.univ (bodyAt0 t) (fun _ =>
        iprop(Inv T c (t.val + 1) ∗ (rdat m T c).owesAt () t.succ ∗ (∃ X, ⌜(rdat m T c).after 0 t (Y 0) X⌝ ∗ owns (c : Thread nD τ) (ms0 t) fullShare X) ∗ (∃ X, ⌜(rdat m T c).after 1 t (Y 1) X⌝ ∗ owns (c : Thread nD τ) (ms1 t) fullShare X) ∗ (∃ X, ⌜(rdat m T c).after 2 t (Y 2) X⌝ ∗ owns (c : Thread nD τ) (ms2 t) fullShare X) ∗ (∃ X, ⌜(rdat m T c).after 3 t (Y 3) X⌝ ∗ owns (c : Thread nD τ) (ms3 t) fullShare X) ∗ (∃ X, ⌜(rdat m T c).after 4 t (Y 4) X⌝ ∗ owns (c : Thread nD τ) (ms4 t) fullShare X) ∗ (∃ X, ⌜(rdat m T c).after 5 t (Y 5) X⌝ ∗ owns (c : Thread nD τ) (ms5 t) fullShare X) ∗ (∃ X, ⌜(rdat m T c).after 6 t (Y 6) X⌝ ∗ owns (c : Thread nD τ) (ms6 t) fullShare X) ∗ (∃ X, ⌜(rdat m T c).after 7 t (Y 7) X⌝ ∗ owns (c : Thread nD τ) (ms7 t) fullShare X) ∗ (∃ X, ⌜(rdat m T c).after 8 t (Y 8) X⌝ ∗ owns (c : Thread nD τ) (ms8 t) fullShare X) ∗ (∃ X, ⌜(rdat m T c).after 9 t (Y 9) X⌝ ∗ owns (c : Thread nD τ) (ms9 t) fullShare X) ∗ (∃ X, ⌜(rdat m T c).after 10 t (Y 10) X⌝ ∗ owns (c : Thread nD τ) (ms10 t) fullShare X) ∗ (∃ X, ⌜(rdat m T c).after 11 t (Y 11) X⌝ ∗ owns (c : Thread nD τ) (ms11 t) fullShare X) ∗ (∃ X, ⌜(rdat m T c).after 12 t (Y 12) X⌝ ∗ owns (c : Thread nD τ) (ms12 t) fullShare X) ∗ (∃ X, ⌜(rdat m T c).after 13 t (Y 13) X⌝ ∗ owns (c : Thread nD τ) (ms13 t) fullShare X) ∗ (∃ X, ⌜(rdat m T c).after 14 t (Y 14) X⌝ ∗ owns (c : Thread nD τ) (ms14 t) fullShare X) ∗ (∃ X, ⌜(rdat m T c).after 15 t (Y 15) X⌝ ∗ owns (c : Thread nD τ) (ms15 t) fullShare X))) := by
  rw [show (rdat m T c).owesAt () t.succ = (rdat m T c).owesAt () t.castSucc from rfl]
  unfold Inv bodyAt0
  iintro ⟨⟨%s0, %s1, %s2, %s3, %s4, %hst, HS0, HS1, HS2, HS3, HS4, Hg⟩, Ho, H0, H1, H2, H3, H4, H5, H6, H7, H8, H9, H10, H11, H12, H13, H14, H15⟩
  obtain ⟨hst', h10, h11, h12, h13, h14, h15⟩ := hT c t Y s0 s1 s2 s3 s4 hY hst
  iapply (runs_pieces c t (Y 0) (Y 1) (Y 2) (Y 3) (Y 4) (Y 5) (Y 6) (Y 7) (Y 8) (Y 9) (Y 10) (Y 11) (Y 12) (Y 13) (Y 14) (Y 15) s0 s1 s2 s3 s4 Set.univ _)
  isplitl [H0]; · iapply (owns_unread c (hs0 t) _); iexact H0
  isplitl [H1]; · iapply (owns_unread c (hs1 t) _); iexact H1
  isplitl [H2]; · iapply (owns_unread c (hs2 t) _); iexact H2
  isplitl [H3]; · iapply (owns_unread c (hs3 t) _); iexact H3
  isplitl [H4]; · iapply (owns_unread c (hs4 t) _); iexact H4
  isplitl [H5]; · iapply (owns_unread c (hs5 t) _); iexact H5
  isplitl [H6]; · iapply (owns_unread c (hs6 t) _); iexact H6
  isplitl [H7]; · iapply (owns_unread c (hs7 t) _); iexact H7
  isplitl [H8]; · iapply (owns_unread c (hs8 t) _); iexact H8
  isplitl [H9]; · iapply (owns_unread c (hs9 t) _); iexact H9
  isplitl [H10]; · iapply (owns_unread c (hs10 t) _); iexact H10
  isplitl [H11]; · iapply (owns_unread c (hs11 t) _); iexact H11
  isplitl [H12]; · iapply (owns_unread c (hs12 t) _); iexact H12
  isplitl [H13]; · iapply (owns_unread c (hs13 t) _); iexact H13
  isplitl [H14]; · iapply (owns_unread c (hs14 t) _); iexact H14
  isplitl [H15]; · iapply (owns_unread c (hs15 t) _); iexact H15
  isplitl [HS0]; · iapply (owns_unread c hsc0 _); iexact HS0
  isplitl [HS1]; · iapply (owns_unread c hsc1 _); iexact HS1
  isplitl [HS2]; · iapply (owns_unread c hsc2 _); iexact HS2
  isplitl [HS3]; · iapply (owns_unread c hsc3 _); iexact HS3
  isplitl [HS4]; · iapply (owns_unread c hsc4 _); iexact HS4
  iintro ⟨H0, H1, H2, H3, H4, H5, H6, H7, H8, H9, H10, H11, H12, H13, H14, H15, HS0, HS1, HS2, HS3, HS4⟩
  isplitl [HS0 HS1 HS2 HS3 HS4 Hg]
  · iexists (left sc0 hsc0 s0 (pieces c t (Y 0) (Y 1) (Y 2) (Y 3) (Y 4) (Y 5) (Y 6) (Y 7) (Y 8) (Y 9) (Y 10) (Y 11) (Y 12) (Y 13) (Y 14) (Y 15) s0 s1 s2 s3 s4).J16 (pieces c t (Y 0) (Y 1) (Y 2) (Y 3) (Y 4) (Y 5) (Y 6) (Y 7) (Y 8) (Y 9) (Y 10) (Y 11) (Y 12) (Y 13) (Y 14) (Y 15) s0 s1 s2 s3 s4).L16), (left sc1 hsc1 s1 (pieces c t (Y 0) (Y 1) (Y 2) (Y 3) (Y 4) (Y 5) (Y 6) (Y 7) (Y 8) (Y 9) (Y 10) (Y 11) (Y 12) (Y 13) (Y 14) (Y 15) s0 s1 s2 s3 s4).J17 (pieces c t (Y 0) (Y 1) (Y 2) (Y 3) (Y 4) (Y 5) (Y 6) (Y 7) (Y 8) (Y 9) (Y 10) (Y 11) (Y 12) (Y 13) (Y 14) (Y 15) s0 s1 s2 s3 s4).L17), (left sc2 hsc2 s2 (pieces c t (Y 0) (Y 1) (Y 2) (Y 3) (Y 4) (Y 5) (Y 6) (Y 7) (Y 8) (Y 9) (Y 10) (Y 11) (Y 12) (Y 13) (Y 14) (Y 15) s0 s1 s2 s3 s4).J18 (pieces c t (Y 0) (Y 1) (Y 2) (Y 3) (Y 4) (Y 5) (Y 6) (Y 7) (Y 8) (Y 9) (Y 10) (Y 11) (Y 12) (Y 13) (Y 14) (Y 15) s0 s1 s2 s3 s4).L18), (left sc3 hsc3 s3 (pieces c t (Y 0) (Y 1) (Y 2) (Y 3) (Y 4) (Y 5) (Y 6) (Y 7) (Y 8) (Y 9) (Y 10) (Y 11) (Y 12) (Y 13) (Y 14) (Y 15) s0 s1 s2 s3 s4).J19 (pieces c t (Y 0) (Y 1) (Y 2) (Y 3) (Y 4) (Y 5) (Y 6) (Y 7) (Y 8) (Y 9) (Y 10) (Y 11) (Y 12) (Y 13) (Y 14) (Y 15) s0 s1 s2 s3 s4).L19), (left sc4 hsc4 s4 (pieces c t (Y 0) (Y 1) (Y 2) (Y 3) (Y 4) (Y 5) (Y 6) (Y 7) (Y 8) (Y 9) (Y 10) (Y 11) (Y 12) (Y 13) (Y 14) (Y 15) s0 s1 s2 s3 s4).J20 (pieces c t (Y 0) (Y 1) (Y 2) (Y 3) (Y 4) (Y 5) (Y 6) (Y 7) (Y 8) (Y 9) (Y 10) (Y 11) (Y 12) (Y 13) (Y 14) (Y 15) s0 s1 s2 s3 s4).L20)
    isplitr; · ipureintro; exact hst'
    isplitl [HS0]
    · unfold owns; iexists _; isplitr; swap; · iexact HS0
      ipureintro; rfl
    isplitl [HS1]
    · unfold owns; iexists _; isplitr; swap; · iexact HS1
      ipureintro; rfl
    isplitl [HS2]
    · unfold owns; iexists _; isplitr; swap; · iexact HS2
      ipureintro; rfl
    isplitl [HS3]
    · unfold owns; iexists _; isplitr; swap; · iexact HS3
      ipureintro; rfl
    isplitl [HS4]
    · unfold owns; iexists _; isplitr; swap; · iexact HS4
      ipureintro; rfl
    iexact Hg
  isplitl [Ho]; · iexact Ho
  isplitl [H0]
  · iexists (Y 0); isplitr
    · ipureintro; exact ⟨fun _ => rfl, trivial⟩
    iapply (unread_owns c (hs0 t) _); iexact H0
  isplitl [H1]
  · iexists (Y 1); isplitr
    · ipureintro; exact ⟨fun _ => rfl, trivial⟩
    iapply (unread_owns c (hs1 t) _); iexact H1
  isplitl [H2]
  · iexists (Y 2); isplitr
    · ipureintro; exact ⟨fun _ => rfl, trivial⟩
    iapply (unread_owns c (hs2 t) _); iexact H2
  isplitl [H3]
  · iexists (Y 3); isplitr
    · ipureintro; exact ⟨fun _ => rfl, trivial⟩
    iapply (unread_owns c (hs3 t) _); iexact H3
  isplitl [H4]
  · iexists (Y 4); isplitr
    · ipureintro; exact ⟨fun _ => rfl, trivial⟩
    iapply (unread_owns c (hs4 t) _); iexact H4
  isplitl [H5]
  · iexists (Y 5); isplitr
    · ipureintro; exact ⟨fun _ => rfl, trivial⟩
    iapply (unread_owns c (hs5 t) _); iexact H5
  isplitl [H6]
  · iexists (Y 6); isplitr
    · ipureintro; exact ⟨fun _ => rfl, trivial⟩
    iapply (unread_owns c (hs6 t) _); iexact H6
  isplitl [H7]
  · iexists (Y 7); isplitr
    · ipureintro; exact ⟨fun _ => rfl, trivial⟩
    iapply (unread_owns c (hs7 t) _); iexact H7
  isplitl [H8]
  · iexists (Y 8); isplitr
    · ipureintro; exact ⟨fun _ => rfl, trivial⟩
    iapply (unread_owns c (hs8 t) _); iexact H8
  isplitl [H9]
  · iexists (Y 9); isplitr
    · ipureintro; exact ⟨fun _ => rfl, trivial⟩
    iapply (unread_owns c (hs9 t) _); iexact H9
  isplitl [H10]
  · iexists (left (ms10 t) (hs10 t) (Y 10) (pieces c t (Y 0) (Y 1) (Y 2) (Y 3) (Y 4) (Y 5) (Y 6) (Y 7) (Y 8) (Y 9) (Y 10) (Y 11) (Y 12) (Y 13) (Y 14) (Y 15) s0 s1 s2 s3 s4).J10 (pieces c t (Y 0) (Y 1) (Y 2) (Y 3) (Y 4) (Y 5) (Y 6) (Y 7) (Y 8) (Y 9) (Y 10) (Y 11) (Y 12) (Y 13) (Y 14) (Y 15) s0 s1 s2 s3 s4).L10); isplitr
    · ipureintro; exact ⟨fun h => absurd h (by decide), h10⟩
    unfold owns; iexists _; isplitr; swap; · iexact H10
    ipureintro; rfl
  isplitl [H11]
  · iexists (left (ms11 t) (hs11 t) (Y 11) (pieces c t (Y 0) (Y 1) (Y 2) (Y 3) (Y 4) (Y 5) (Y 6) (Y 7) (Y 8) (Y 9) (Y 10) (Y 11) (Y 12) (Y 13) (Y 14) (Y 15) s0 s1 s2 s3 s4).J11 (pieces c t (Y 0) (Y 1) (Y 2) (Y 3) (Y 4) (Y 5) (Y 6) (Y 7) (Y 8) (Y 9) (Y 10) (Y 11) (Y 12) (Y 13) (Y 14) (Y 15) s0 s1 s2 s3 s4).L11); isplitr
    · ipureintro; exact ⟨fun h => absurd h (by decide), h11⟩
    unfold owns; iexists _; isplitr; swap; · iexact H11
    ipureintro; rfl
  isplitl [H12]
  · iexists (left (ms12 t) (hs12 t) (Y 12) (pieces c t (Y 0) (Y 1) (Y 2) (Y 3) (Y 4) (Y 5) (Y 6) (Y 7) (Y 8) (Y 9) (Y 10) (Y 11) (Y 12) (Y 13) (Y 14) (Y 15) s0 s1 s2 s3 s4).J12 (pieces c t (Y 0) (Y 1) (Y 2) (Y 3) (Y 4) (Y 5) (Y 6) (Y 7) (Y 8) (Y 9) (Y 10) (Y 11) (Y 12) (Y 13) (Y 14) (Y 15) s0 s1 s2 s3 s4).L12); isplitr
    · ipureintro; exact ⟨fun h => absurd h (by decide), h12⟩
    unfold owns; iexists _; isplitr; swap; · iexact H12
    ipureintro; rfl
  isplitl [H13]
  · iexists (left (ms13 t) (hs13 t) (Y 13) (pieces c t (Y 0) (Y 1) (Y 2) (Y 3) (Y 4) (Y 5) (Y 6) (Y 7) (Y 8) (Y 9) (Y 10) (Y 11) (Y 12) (Y 13) (Y 14) (Y 15) s0 s1 s2 s3 s4).J13 (pieces c t (Y 0) (Y 1) (Y 2) (Y 3) (Y 4) (Y 5) (Y 6) (Y 7) (Y 8) (Y 9) (Y 10) (Y 11) (Y 12) (Y 13) (Y 14) (Y 15) s0 s1 s2 s3 s4).L13); isplitr
    · ipureintro; exact ⟨fun h => absurd h (by decide), h13⟩
    unfold owns; iexists _; isplitr; swap; · iexact H13
    ipureintro; rfl
  isplitl [H14]
  · iexists (left (ms14 t) (hs14 t) (Y 14) (pieces c t (Y 0) (Y 1) (Y 2) (Y 3) (Y 4) (Y 5) (Y 6) (Y 7) (Y 8) (Y 9) (Y 10) (Y 11) (Y 12) (Y 13) (Y 14) (Y 15) s0 s1 s2 s3 s4).J14 (pieces c t (Y 0) (Y 1) (Y 2) (Y 3) (Y 4) (Y 5) (Y 6) (Y 7) (Y 8) (Y 9) (Y 10) (Y 11) (Y 12) (Y 13) (Y 14) (Y 15) s0 s1 s2 s3 s4).L14); isplitr
    · ipureintro; exact ⟨fun h => absurd h (by decide), h14⟩
    unfold owns; iexists _; isplitr; swap; · iexact H14
    ipureintro; rfl
  iexists (left (ms15 t) (hs15 t) (Y 15) (pieces c t (Y 0) (Y 1) (Y 2) (Y 3) (Y 4) (Y 5) (Y 6) (Y 7) (Y 8) (Y 9) (Y 10) (Y 11) (Y 12) (Y 13) (Y 14) (Y 15) s0 s1 s2 s3 s4).J15 (pieces c t (Y 0) (Y 1) (Y 2) (Y 3) (Y 4) (Y 5) (Y 6) (Y 7) (Y 8) (Y 9) (Y 10) (Y 11) (Y 12) (Y 13) (Y 14) (Y 15) s0 s1 s2 s3 s4).L15); isplitr
  · ipureintro; exact ⟨fun h => absurd h (by decide), h15⟩
  unfold owns; iexists _; isplitr; swap; · iexact H15
  ipureintro; rfl

theorem body_obligation (hT : T.Step m) (c : Dev nD) : (rdat m T c).BodyObligation (defs₀ (F := F)) Variants.none () Set.univ := fun t Y hY => by
  rw [bigSep_W0, bigSep_W0, defs₀_row]
  exact triple_restated (body_sound m T hT c t Y hY) rfl .rfl fun _ => .rfl

theorem inv_in (h0 : ∀ c s0 s1 s2 s3 s4, T.st c 0 s0 s1 s2 s3 s4) (c : Dev nD) : Pipeline.ΦA spec0 c ⊢ (rdat m T c).Φ 0 := by
  rw [show (rdat m T c).Φ 0 = Inv T c 0 from rfl, PhiA_eq]
  unfold Inv
  iintro ⟨⟨⟨%s0, HS0⟩, ⟨%s1, HS1⟩, ⟨%s2, HS2⟩, ⟨%s3, HS3⟩, ⟨%s4, HS4⟩⟩, Hg⟩
  iexists s0, s1, s2, s3, s4
  isplitr; · ipureintro; exact h0 c s0 s1 s2 s3 s4
  isplitl [HS0]; · iexact HS0
  isplitl [HS1]; · iexact HS1
  isplitl [HS2]; · iexact HS2
  isplitl [HS3]; · iexact HS3
  isplitl [HS4]; · iexact HS4
  iexact Hg

theorem inv_out (c : Dev nD) : (rdat m T c).Φ (Fin.last cfg0.N) ⊢ Pipeline.ΦA spec0 c := by
  rw [show (rdat m T c).Φ (Fin.last cfg0.N) = Inv T c (Fin.last cfg0.N).val from rfl, PhiA_eq]
  unfold Inv
  iintro ⟨%s0, %s1, %s2, %s3, %s4, -, HS0, HS1, HS2, HS3, HS4, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- Every execution of the program ends, each array holding what the relations allow, every semaphore counter zero. -/
theorem run_main (hT : T.Step m) (h0 : ∀ c s0 s1 s2 s3 s4, T.st c 0 s0 s1 s2 s3 s4) :
    θ_run defs (onTc (τ := τ) (main (F := F))) (s₀ m ρ) (fun r => (Pipeline.RDat.FramePost (cfgs 0) (rdat m T) (V m)) r ∧ r.2.sem = fun _ => 0) :=
  Pipeline.RDat.θ_run_frame_track_shared (Q' := _) cfgs (0 : Fin 1) launch₀0 defs₀ Variants.none (rdat m T) m ρ main
    (hbody := fun c => body_obligation m T hT c) (hq := fun _ _ _ => rfl)
    (howed := fun _ _ => rfl) (V := V m) (hmain := hmain m Variants.none) (hA := A_eq m T) (hin := inv_in m T h0) (hout := inv_out m T)

/-- The statement that says nothing. -/
def anything : Track F where
  st _ _ _ _ _ _ _ := True
  a10 _ _ _ _ := True
  a11 _ _ _ _ := True
  a12 _ _ _ _ := True
  a13 _ _ _ _ := True
  a14 _ _ _ _ := True
  a15 _ _ _ _ := True

/-- Every execution of the program ends with its arguments as they were and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c => ⟨(Pipeline.RDat.FramePost.arr_in h c 3 rfl).trans ((A_eq m anything c 3).trans (V_main_arg0 m c)),
      (Pipeline.RDat.FramePost.arr_in h c 5 rfl).trans ((A_eq m anything c 5).trans (V_main_arg1 m c)),
      (Pipeline.RDat.FramePost.arr_in h c 8 rfl).trans ((A_eq m anything c 8).trans (V_main_arg2 m c)),
      (Pipeline.RDat.FramePost.arr_in h c 9 rfl).trans ((A_eq m anything c 9).trans (V_main_arg3 m c))⟩, hz⟩)
    (run_main m ρ anything (fun _ _ _ _ _ _ _ _ _ _ => ⟨trivial, trivial, trivial, trivial, trivial, trivial, trivial⟩) (fun _ _ _ _ _ _ => trivial))

end Cert.KernelIdeal.Attn

end
-- ==== Proof.ReferenceIdealLines.lean ====
/- The reference's run, read through the names of its lines. -/
module

public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.ReferenceIdeal.Lines

open Cert.ReferenceIdeal Cert.ReferenceIdeal.Value Idealize.ShloMosaic Idealize.ShloMosaic.TcCoe Idealize.SL.Sem Idealize.ShloMosaic.StableHlo
open Cert.ReferenceIdeal.Read Cert.ReferenceIdeal.Gen

variable (V0 : Valuation τ sig (Elt Ideal))

theorem main_v7_line : res_main_v7 (F := Ideal) V0 = val_main_v7 (F := Ideal) (V0 (Proc.devRef .tc main_arg0)) := by
  unfold res_main_v7
  rfl

theorem main_v8_line : res_main_v8 (F := Ideal) V0 = val_main_v8 (F := Ideal) (V0 (Proc.devRef .tc main_arg0)) := by
  unfold res_main_v8
  rfl

theorem main_v16_line : res_main_v16 (F := Ideal) V0 = val_main_v16 (F := Ideal) (V0 (Proc.devRef .tc main_arg0)) := by
  unfold res_main_v16
  rw [main_v8_line]
  rfl

theorem main_v17_line : res_main_v17 (F := Ideal) V0 = val_main_v17 (F := Ideal) (V0 (Proc.devRef .tc main_arg0)) := by
  unfold res_main_v17
  rw [main_v16_line]
  rfl

theorem main_v22_line : res_main_v22 (F := Ideal) V0 = val_main_v22 (F := Ideal) (V0 (Proc.devRef .tc main_arg0)) := by
  unfold res_main_v22
  rw [main_v8_line, main_v17_line]
  rfl

theorem main_v23_line : res_main_v23 (F := Ideal) V0 = val_main_v23 (F := Ideal) (V0 (Proc.devRef .tc main_arg2)) := by
  unfold res_main_v23
  rfl

theorem main_v26_line : res_main_v26 (F := Ideal) V0 = val_main_v26 (F := Ideal) (V0 (Proc.devRef .tc main_arg0)) := by
  unfold res_main_v26
  rfl

theorem main_v34_line : res_main_v34 (F := Ideal) V0 = val_main_v34 (F := Ideal) (V0 (Proc.devRef .tc main_arg0)) := by
  unfold res_main_v34
  rw [main_v26_line]
  rfl

theorem main_v35_line : res_main_v35 (F := Ideal) V0 = val_main_v35 (F := Ideal) (V0 (Proc.devRef .tc main_arg0)) := by
  unfold res_main_v35
  rw [main_v34_line]
  rfl

theorem main_v40_line : res_main_v40 (F := Ideal) V0 = val_main_v40 (F := Ideal) (V0 (Proc.devRef .tc main_arg0)) := by
  unfold res_main_v40
  rw [main_v26_line, main_v35_line]
  rfl

theorem main_v41_line : res_main_v41 (F := Ideal) V0 = val_main_v41 (F := Ideal) (V0 (Proc.devRef .tc main_arg3)) := by
  unfold res_main_v41
  rfl

theorem main_v44_line : res_main_v44 (F := Ideal) V0 = val_main_v44 (F := Ideal) (V0 (Proc.devRef .tc main_arg0)) (V0 (Proc.devRef .tc main_arg2)) := by
  unfold res_main_v44
  rw [main_v22_line, main_v23_line]
  rfl

theorem main_v45_line : res_main_v45 (F := Ideal) V0 = val_main_v45 (F := Ideal) (V0 (Proc.devRef .tc main_arg0)) (V0 (Proc.devRef .tc main_arg3)) := by
  unfold res_main_v45
  rw [main_v40_line, main_v41_line]
  rfl

theorem main_v48_line : res_main_v48 (F := Ideal) V0 = val_main_v48 (F := Ideal) (V0 (Proc.devRef .tc main_arg0)) (V0 (Proc.devRef .tc main_arg2)) (V0 (Proc.devRef .tc main_arg3)) := by
  unfold res_main_v48
  rw [main_v44_line, main_v45_line]
  rfl

theorem main_v55_line : res_main_v55 (F := Ideal) V0 = val_main_v55 (F := Ideal)  := by
  unfold res_main_v55
  rfl

theorem main_call0_v0_line : res_main_call0_v0 (F := Ideal) V0 = val_main_call0_v0 (F := Ideal) (V0 (Proc.devRef .tc main_arg0)) (V0 (Proc.devRef .tc main_arg2)) (V0 (Proc.devRef .tc main_arg3)) := by
  unfold res_main_call0_v0
  rw [main_v48_line]
  rfl

theorem main_call0_call0_cst_line : res_main_call0_call0_cst (F := Ideal) V0 = val_main_call0_call0_cst (F := Ideal)  := by
  unfold res_main_call0_call0_cst
  rfl

theorem main_call0_call0_v3_line : res_main_call0_call0_v3 (F := Ideal) V0 = val_main_call0_call0_v3 (F := Ideal) (V0 (Proc.devRef .tc main_arg0)) (V0 (Proc.devRef .tc main_arg2)) (V0 (Proc.devRef .tc main_arg3)) := by
  unfold res_main_call0_call0_v3
  rw [main_call0_v0_line, main_call0_call0_cst_line]
  rfl

theorem main_call0_v1_0_line : res_main_call0_v1_0 (F := Ideal) V0 = val_main_call0_v1_0 (F := Ideal) (V0 (Proc.devRef .tc main_arg0)) (V0 (Proc.devRef .tc main_arg2)) (V0 (Proc.devRef .tc main_arg3)) := by
  unfold res_main_call0_v1_0
  rw [main_call0_call0_v3_line, main_call0_v0_line, main_call0_call0_cst_line]
  rfl

theorem main_v58_1_line : res_main_v58_1 (F := Ideal) V0 = val_main_v58_1 (F := Ideal)  := by
  unfold res_main_v58_1
  rw [main_v55_line]
  rfl

theorem main_v58_0_line : res_main_v58_0 (F := Ideal) V0 = val_main_v58_0 (F := Ideal) (V0 (Proc.devRef .tc main_arg0)) (V0 (Proc.devRef .tc main_arg2)) (V0 (Proc.devRef .tc main_arg3)) := by
  unfold res_main_v58_0
  rw [main_v58_1_line, main_call0_v1_0_line]
  rfl

theorem main_call3_v0_line : res_main_call3_v0 (F := Ideal) V0 = val_main_call3_v0 (F := Ideal) (V0 (Proc.devRef .tc main_arg0)) (V0 (Proc.devRef .tc main_arg2)) (V0 (Proc.devRef .tc main_arg3)) := by
  unfold res_main_call3_v0
  rw [main_v48_line]
  rfl

theorem main_call3_call0_cst_line : res_main_call3_call0_cst (F := Ideal) V0 = val_main_call3_call0_cst (F := Ideal)  := by
  unfold res_main_call3_call0_cst
  rfl

theorem main_call3_call0_v3_line : res_main_call3_call0_v3 (F := Ideal) V0 = val_main_call3_call0_v3 (F := Ideal) (V0 (Proc.devRef .tc main_arg0)) (V0 (Proc.devRef .tc main_arg2)) (V0 (Proc.devRef .tc main_arg3)) := by
  unfold res_main_call3_call0_v3
  rw [main_call3_v0_line, main_call3_call0_cst_line]
  rfl

theorem main_call3_v1_0_line : res_main_call3_v1_0 (F := Ideal) V0 = val_main_call3_v1_0 (F := Ideal) (V0 (Proc.devRef .tc main_arg0)) (V0 (Proc.devRef .tc main_arg2)) (V0 (Proc.devRef .tc main_arg3)) := by
  unfold res_main_call3_v1_0
  rw [main_call3_call0_v3_line, main_call3_v0_line, main_call3_call0_cst_line]
  rfl

theorem main_v63_line : res_main_v63 (F := Ideal) V0 = val_main_v63 (F := Ideal) (V0 (Proc.devRef .tc main_arg0)) (V0 (Proc.devRef .tc main_arg2)) (V0 (Proc.devRef .tc main_arg3)) := by
  unfold res_main_v63
  rw [main_call3_v1_0_line, main_v58_0_line]
  rfl

theorem main_v64_1_line : res_main_v64_1 (F := Ideal) V0 = val_main_v64_1 (F := Ideal)  := by
  unfold res_main_v64_1
  rw [main_v55_line]
  rfl

theorem main_v64_0_line : res_main_v64_0 (F := Ideal) V0 = val_main_v64_0 (F := Ideal) (V0 (Proc.devRef .tc main_arg0)) (V0 (Proc.devRef .tc main_arg2)) (V0 (Proc.devRef .tc main_arg3)) := by
  unfold res_main_v64_0
  rw [main_v64_1_line, main_v63_line]
  rfl

theorem main_v66_line : res_main_v66 (F := Ideal) V0 = val_main_v66 (F := Ideal) (V0 (Proc.devRef .tc main_arg0)) := by
  unfold res_main_v66
  rfl

theorem main_v69_line : res_main_v69 (F := Ideal) V0 = val_main_v69 (F := Ideal) (V0 (Proc.devRef .tc main_arg0)) (V0 (Proc.devRef .tc main_arg2)) (V0 (Proc.devRef .tc main_arg3)) := by
  unfold res_main_v69
  rw [main_v64_0_line, main_v66_line]
  rfl

theorem main_v70_2_line : res_main_v70_2 (F := Ideal) V0 = val_main_v70_2 (F := Ideal) (V0 (Proc.devRef .tc main_arg0)) := by
  unfold res_main_v70_2
  rw [main_v7_line]
  rfl

theorem main_v70_0_line : res_main_v70_0 (F := Ideal) V0 = val_main_v70_0 (F := Ideal) (V0 (Proc.devRef .tc main_arg0)) := by
  unfold res_main_v70_0
  rw [main_v7_line, main_v70_2_line]
  rfl

theorem main_v72_line : res_main_v72 (F := Ideal) V0 = val_main_v72 (F := Ideal) (V0 (Proc.devRef .tc main_arg1)) := by
  unfold res_main_v72
  rfl

theorem main_v73_line : res_main_v73 (F := Ideal) V0 = val_main_v73 (F := Ideal) (V0 (Proc.devRef .tc main_arg0)) (V0 (Proc.devRef .tc main_arg1)) (V0 (Proc.devRef .tc main_arg2)) (V0 (Proc.devRef .tc main_arg3)) := by
  unfold res_main_v73
  rw [main_v69_line, main_v72_line]
  rfl

theorem main_v77_line : res_main_v77 (F := Ideal) V0 = val_main_v77 (F := Ideal) (V0 (Proc.devRef .tc main_arg0)) (V0 (Proc.devRef .tc main_arg1)) := by
  unfold res_main_v77
  rw [main_v72_line, main_v70_0_line]
  rfl

theorem main_v144_line : (truncf .bf16 (shapeCast _ (transpose S2x2048x32x128 [0, 2, 1, 3] (transpose S2x32x2048x128 [0, 1, 3, 2] (Host.dotGeneral dot_S2x32x2048x128_S2x32x2048x2048_S2x32x128x2048_2_2_3_3_01_01 (φ₂ := .f32) none (res_main_v77 V0) (res_main_v64_0 V0)) transposes_S2x32x128x2048_S2x32x2048x128_0_1_3_2) transposes_S2x32x2048x128_S2x2048x32x128_0_2_1_3) shapeCasts_S2x2048x32x128_S4096x4096) bitsLt_bf16_f32 : (⟨S4096x4096, .bf16⟩ : BufTy).Contents (Elt Ideal)) = val_main_v144 (F := Ideal) (V0 (Proc.devRef .tc main_arg0)) (V0 (Proc.devRef .tc main_arg1)) (V0 (Proc.devRef .tc main_arg2)) (V0 (Proc.devRef .tc main_arg3)) := by
  rw [main_v77_line, main_v64_0_line]
  rfl

theorem main_v143_line : (truncf .bf16 (addf (mulf (res_main_v73 V0) (res_main_v70_2 V0)) (mulf (mulf (res_main_v7 V0) (res_main_v73 V0)) (mulf (res_main_v70_2 V0) (subf (broadcastInDim S4096x4096 ![] bcast_S_S4096x4096 (constant S_ .f32 0x3F800000#32)) (res_main_v70_2 V0))))) bitsLt_bf16_f32 : (⟨S4096x4096, .bf16⟩ : BufTy).Contents (Elt Ideal)) = val_main_v143 (F := Ideal) (V0 (Proc.devRef .tc main_arg0)) (V0 (Proc.devRef .tc main_arg1)) (V0 (Proc.devRef .tc main_arg2)) (V0 (Proc.devRef .tc main_arg3)) := by
  rw [main_v73_line, main_v70_2_line, main_v7_line]
  rfl

variable (m : (ℓ : Loc nD τ sig) → Buf (Elt Ideal) ℓ)

/-- Every execution of the reference ends with the two gradients its lines name, its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (main_v144_line (launchContents m c)), (h c).2.1.trans (main_v143_line (launchContents m c)), (h c).2.2⟩)
    (Cert.ReferenceIdeal.Value.run m ρ)

end Cert.ReferenceIdeal.Lines

end
-- ==== Proof.KernelIdealAttnLoop.lean ====
/- What the loop over the earlier key blocks adds to the gradient of the values: where each load and store of the backward
   attention call lies, and the sums that the trips leave in the scratch. -/
module

public import proofs.«01_k».proof.Proof.KernelIdealAttnBody
public import Idealize.ShloMosaic.PureOps.Ideal
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat RDat Cfg Window cellOf)

/-! Trip counts and offsets. -/

theorem trips1 (i : grid0.Coords) : (k0_t1_loop i).trips = (i 2).val := by
  have h : (i 2).val < 8 := (i 2).isLt
  unfold k0_t1_loop Scf.Loop.trips
  dsimp only
  generalize (i 2).val = n at h
  interval_cases n <;> decide

theorem trips2 (i : grid0.Coords) : (k0_t2_loop i).trips = 0 := by
  have h : (i 2).val < 8 := (i 2).isLt
  unfold k0_t2_loop Scf.Loop.trips
  dsimp only
  generalize (i 2).val = n at h
  interval_cases n <;> decide

theorem trip_lt (i : grid0.Coords) (k : Fin (k0_t1_loop i).trips) : k.val < 8 :=
  lt_of_lt_of_le k.isLt ((trips1 i).le.trans (Nat.le_of_lt (i 2).isLt))

theorem off1_eq (i : grid0.Coords) : k0_off1 i = ![(i 2).val * 256, 0] := by
  have h : (i 2).val < 8 := (i 2).isLt
  unfold k0_off1
  dsimp only
  generalize (i 2).val = n at h
  interval_cases n <;> rfl

theorem off2_eq (i : grid0.Coords) : k0_off2 i = ![(i 2).val * 256, 128] := by
  have h : (i 2).val < 8 := (i 2).isLt
  unfold k0_off2
  dsimp only
  generalize (i 2).val = n at h
  interval_cases n <;> rfl

theorem off13_eq (i : grid0.Coords) : k0_off13 i = ![(i 2).val * 256, 0] := by
  have h : (i 2).val < 8 := (i 2).isLt
  unfold k0_off13
  dsimp only
  generalize (i 2).val = n at h
  interval_cases n <;> rfl

theorem off14_eq (i : grid0.Coords) : k0_off14 i = ![(i 2).val * 256, 128] := by
  have h : (i 2).val < 8 := (i 2).isLt
  unfold k0_off14
  dsimp only
  generalize (i 2).val = n at h
  interval_cases n <;> rfl

theorem off15_eq (i : grid0.Coords) : k0_off15 i = ![0, 0, 0, (i 2).val, 0, 0] := by
  have h : (i 2).val < 8 := (i 2).isLt
  unfold k0_off15
  dsimp only
  generalize (i 2).val = n at h
  interval_cases n <;> rfl

theorem off16_eq (i : grid0.Coords) : k0_off16 i = ![0, 1, 0, (i 2).val, 0, 0] := by
  have h : (i 2).val < 8 := (i 2).isLt
  unfold k0_off16
  dsimp only
  generalize (i 2).val = n at h
  interval_cases n <;> rfl

theorem off3_eq (i : grid0.Coords) (k : Fin (k0_t1_loop i).trips) : k0_off3 i k = ![0, 0, 0, k.val, 0, 0] := by
  have h := trip_lt i k
  unfold k0_off3
  dsimp only
  generalize k.val = n at h
  interval_cases n <;> rfl

theorem off4_eq (i : grid0.Coords) (k : Fin (k0_t1_loop i).trips) : k0_off4 i k = ![0, 1, 0, k.val, 0, 0] := by
  have h := trip_lt i k
  unfold k0_off4
  dsimp only
  generalize k.val = n at h
  interval_cases n <;> rfl

theorem off5_eq (i : grid0.Coords) (k : Fin (k0_t1_loop i).trips) : k0_off5 i k = ![k.val * 256, 0] := by
  have h := trip_lt i k
  unfold k0_off5
  dsimp only
  generalize k.val = n at h
  interval_cases n <;> rfl

theorem off6_eq (i : grid0.Coords) (k : Fin (k0_t1_loop i).trips) : k0_off6 i k = ![k.val * 256, 128] := by
  have h := trip_lt i k
  unfold k0_off6
  dsimp only
  generalize k.val = n at h
  interval_cases n <;> rfl

/-! Loads and stores of one block. -/

theorem load2 {e : EltTy} (M : Memref sig .tc .vmem S2048x256 e) (f : BufTy.Contents (Elt Ideal) M.view.ty) (off : Fin 2 → ℕ)
    (inb) (o l0 : ℕ) (h : off = ![o, l0]) (x : Fin 256) (l : Fin 128) (y : S2048x256.Idx)
    (h0 : (y 0).val = o + x.val) (h1 : (y 1).val = l0 + l.val) :
    M.view.readAt (Elt Ideal) (Rect.unit (s := S2048x256) off ![256, 128] inb).toLoadRect f (ix2 x l) = M.view.read (Elt Ideal) f y := by
  subst h
  rw [View.readAt_apply]
  congr 1
  funext a
  refine Fin.ext ?_
  match a with
  | ⟨0, _⟩ => exact ((Nat.one_mul x.val).symm ▸ h0.symm : o + 1 * x.val = (y 0).val)
  | ⟨1, _⟩ => exact ((Nat.one_mul l.val).symm ▸ h1.symm : l0 + 1 * l.val = (y 1).val)

theorem load6 {e : EltTy} (M : Memref sig .tc .vmem S1x2x1x8x256x256 e) (f : BufTy.Contents (Elt Ideal) M.view.ty) (off : Fin 6 → ℕ)
    (inb) (h k : ℕ) (he : off = ![0, h, 0, k, 0, 0]) (x r : Fin 256) (h' : Fin 2) (k' : Fin 8) (eh : h'.val = h) (ek : k'.val = k) :
    M.view.readAt (Elt Ideal) (Rect.unit (s := S1x2x1x8x256x256) off ![1, 1, 1, 1, 256, 256] inb).toLoadRect f (ix6 0 0 0 0 x r)
      = M.view.read (Elt Ideal) f (ix6 0 h' 0 k' x r) := by
  subst he eh ek
  rw [View.readAt_apply]
  congr 1
  funext a
  refine Fin.ext ?_
  match a with
  | ⟨0, _⟩ => rfl
  | ⟨1, _⟩ => exact (by omega : h'.val + 0 * 1 = h'.val)
  | ⟨2, _⟩ => rfl
  | ⟨3, _⟩ => exact (by omega : k'.val + 0 * 1 = k'.val)
  | ⟨4, _⟩ => exact (by omega : 0 + 1 * x.val = x.val)
  | ⟨5, _⟩ => exact (by omega : 0 + 1 * r.val = r.val)

/-- A block of rows stored in two halves of the lanes, read at one place. -/
theorem store_lanes {e : EltTy} (M : Memref sig .tc .vmem S2048x256 e) (f : BufTy.Contents (Elt Ideal) M.view.ty) (offh offl : Fin 2 → ℕ)
    (inh inl) (o : ℕ) (hh : offh = ![o, 128]) (hl : offl = ![o, 0]) (B A : Vec Ideal S256x128 e)
    (L : List (View.Piece (Elt Ideal) S2048x256 e)) (y : S2048x256.Idx) (R : Elt Ideal e)
    (hA : ∀ (x : Fin 256) (l : Fin 128), (y 0).val = o + x.val → (y 1).val = 0 + l.val → A (ix2 x l) = R)
    (hB : ∀ (x : Fin 256) (l : Fin 128), (y 0).val = o + x.val → (y 1).val = 128 + l.val → B (ix2 x l) = R)
    (hM : (y 0).val < o ∨ o + 256 ≤ (y 0).val → M.view.read (Elt Ideal) (M.view.writes (Elt Ideal) f L) y = R) :
    M.view.read (Elt Ideal) (M.view.writes (Elt Ideal) f
      (⟨Rect.unit (s := S2048x256) offh ![256, 128] inh, B⟩ :: ⟨Rect.unit (s := S2048x256) offl ![256, 128] inl, A⟩ :: L)) y = R := by
  subst hh hl
  have y1 : (y 1).val < 256 := (y 1).isLt
  by_cases hr : (y 0).val < o ∨ o + 256 ≤ (y 0).val
  · rw [View.read_writes_cons_miss_of_axis _ _ _ _ _ (0 : Fin 2) o 256 rfl rfl rfl hr,
      View.read_writes_cons_miss_of_axis _ _ _ _ _ (0 : Fin 2) o 256 rfl rfl rfl hr]
    exact hM hr
  · by_cases hc : (y 1).val < 128
    · rw [View.read_writes_cons_miss_of_axis _ _ _ _ _ (1 : Fin 2) 128 128 rfl rfl rfl (Or.inl hc),
        View.read_writes_cons_hit_of_coords _ _ _ _ _ (ix2 (⟨(y 0).val - o, by omega⟩ : Fin 256) (⟨(y 1).val, hc⟩ : Fin 128)) y
          (fun a => by
            match a with
            | ⟨0, _⟩ => exact (by omega : (y 0).val = o + 1 * ((y 0).val - o))
            | ⟨1, _⟩ => exact (by omega : (y 1).val = 0 + 1 * (y 1).val))]
      exact hA _ _ (by show (y 0).val = o + ((y 0).val - o); omega) (by show (y 1).val = 0 + (y 1).val; omega)
    · rw [View.read_writes_cons_hit_of_coords _ _ _ _ _ (ix2 (⟨(y 0).val - o, by omega⟩ : Fin 256) (⟨(y 1).val - 128, by omega⟩ : Fin 128)) y
          (fun a => by
            match a with
            | ⟨0, _⟩ => exact (by omega : (y 0).val = o + 1 * ((y 0).val - o))
            | ⟨1, _⟩ => exact (by omega : (y 1).val = 128 + 1 * ((y 1).val - 128)))]
      exact hB _ _ (by show (y 0).val = o + ((y 0).val - o); omega) (by show (y 1).val = 128 + ((y 1).val - 128); omega)

/-! What one block of queries adds to the gradient of the values. -/

abbrev headOf (y : S2048x256.Idx) : Fin 2 := ⟨(y 1).val / 128, by have : (y 1).val < 256 := (y 1).isLt; omega⟩
abbrev blockOf (y : S2048x256.Idx) : Fin 8 := ⟨(y 0).val / 256, by have : (y 0).val < 2048 := (y 0).isLt; omega⟩
abbrev rowOf (y : S2048x256.Idx) : Fin 256 := ⟨(y 0).val % 256, by omega⟩
abbrev at2 (q : Fin 8) (x : Fin 256) (y : S2048x256.Idx) : S2048x256.Idx :=
  ix2 (⟨q.val * 256 + x.val, by omega⟩ : Fin 2048) (⟨(y 1).val, (y 1).isLt⟩ : Fin 256)

/-- The weights of the query block `q` on the key `y`, against the incoming gradient. -/
def dvTerm (w : Vec Ideal S1x2x1x8x256x256 .bf16) (g : Vec Ideal S2048x256 .bf16) (q : Fin 8) (y : S2048x256.Idx) : EReal :=
  ∑ x : Fin 256, w (ix6 0 (headOf y) 0 (blockOf y) x (rowOf y)) * g (at2 q x y)

theorem pay23_at (a : Vec Ideal S256x128 .bf16) (w : Vec Ideal S1x1x1x1x256x256 .bf16) (b : Vec Ideal S256x128 .f32) (x : Fin 256) (l : Fin 128) :
    k0_pay23 a w b (ix2 x l) = b (ix2 x l) + ∑ p, w (ix6 0 0 0 0 p x) * a (ix2 p l) := by
  pointwise [k0_pay23, k0_pay19]

theorem pay24_at (a : Vec Ideal S256x128 .bf16) (w : Vec Ideal S1x1x1x1x256x256 .bf16) (b : Vec Ideal S256x128 .f32) (x : Fin 256) (l : Fin 128) :
    k0_pay24 a (k0_pay20 w) b (ix2 x l) = b (ix2 x l) + ∑ p, w (ix6 0 0 0 0 p x) * a (ix2 p l) := by
  pointwise [k0_pay24, k0_pay20]

theorem pay62_at (a : Vec Ideal S256x128 .bf16) (w : Vec Ideal S1x1x1x1x256x256 .bf16) (b : Vec Ideal S256x128 .f32) (x : Fin 256) (l : Fin 128) :
    k0_pay62 a w b (ix2 x l) = b (ix2 x l) + ∑ p, w (ix6 0 0 0 0 p x) * a (ix2 p l) := by
  pointwise [k0_pay62, k0_pay58]

theorem pay63_at (a : Vec Ideal S256x128 .bf16) (w : Vec Ideal S1x1x1x1x256x256 .bf16) (b : Vec Ideal S256x128 .f32) (x : Fin 256) (l : Fin 128) :
    k0_pay63 a w b (ix2 x l) = b (ix2 x l) + ∑ p, w (ix6 0 0 0 0 p x) * a (ix2 p l) := by
  pointwise [k0_pay63, k0_pay59]

/-- One trip: the key block `k` gains the query block's part, the others are kept. -/
theorem trip_dv (c : Dev nD) (bd : Option Variants.none.V) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (v19 : BitVec 32) (X_arg5 : BufTy.Contents (Elt Ideal) arg5.view.ty) (X_arg9 : BufTy.Contents (Elt Ideal) arg9.view.ty) (X_arg10 : BufTy.Contents (Elt Ideal) arg10.view.ty) (X_arg19 : BufTy.Contents (Elt Ideal) arg19.view.ty) (X_arg20 : BufTy.Contents (Elt Ideal) arg20.view.ty) (X_arg21 : BufTy.Contents (Elt Ideal) arg21.view.ty)
    (k : Fin (k0_t1_loop i).trips) (acc) (f22 : BufTy.Contents (Elt Ideal) arg22.view.ty) (f23 : BufTy.Contents (Elt Ideal) arg23.view.ty) (y : S2048x256.Idx) :
    arg23.view.read (Elt Ideal) (arg23.view.writes (Elt Ideal) f23 (tripL_k0_t1 (F := Ideal) Variants.none c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 X_arg5 X_arg9 X_arg10 X_arg19 X_arg20 X_arg21 k acc f22 f23).2) y
      = arg23.view.read (Elt Ideal) f23 y
        + (if (y 0).val / 256 = k.val then dvTerm (arg9.view.read (Elt Ideal) X_arg9) (arg21.view.read (Elt Ideal) X_arg21) (i 2) y else (0 : EReal)) := by
  have hk := trip_lt i k
  unfold tripL_k0_t1 trip_k0_t1
  dsimp only
  sl_unfold_run_names
  refine store_lanes arg23 f23 _ _ _ _ (k.val * 256) (off6_eq i k) (off5_eq i k) _ _ [] y _ (fun x l h0 h1 => ?_) (fun x l h0 h1 => ?_) (fun h => ?_)
  · have hb : (y 0).val / 256 = k.val := by omega
    refine (pay23_at _ _ _ x l).trans ?_
    rw [if_pos hb]
    refine congrArg₂ (· + ·) (load2 arg23 f23 _ _ _ _ (off5_eq i k) x l y h0 h1) (Finset.sum_congr rfl fun p _ => congrArg₂ (· * ·) ?_ ?_)
    · refine (load6 arg9 X_arg9 _ _ _ _ (off3_eq i k) p x (headOf y) (blockOf y) (by show (y 1).val / 128 = 0; omega) hb).trans ?_
      have : x = rowOf y := Fin.ext (by show x.val = (y 0).val % 256; omega)
      rw [this]
    · exact load2 arg21 X_arg21 _ _ _ _ (off1_eq i) p l (at2 (i 2) p y) rfl h1
  · have hb : (y 0).val / 256 = k.val := by omega
    refine (pay24_at _ _ _ x l).trans ?_
    rw [if_pos hb]
    refine congrArg₂ (· + ·) (load2 arg23 f23 _ _ _ _ (off6_eq i k) x l y h0 h1) (Finset.sum_congr rfl fun p _ => congrArg₂ (· * ·) ?_ ?_)
    · refine (load6 arg9 X_arg9 _ _ _ _ (off4_eq i k) p x (headOf y) (blockOf y) (by show (y 1).val / 128 = 1; omega) hb).trans ?_
      have : x = rowOf y := Fin.ext (by show x.val = (y 0).val % 256; omega)
      rw [this]
    · exact load2 arg21 X_arg21 _ _ _ _ (off2_eq i) p l (at2 (i 2) p y) rfl h1
  · rw [if_neg (by omega), add_zero]
    rfl

/-- The trips before `n` together. -/
theorem loop_dv (c : Dev nD) (bd : Option Variants.none.V) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (v19 : BitVec 32) (X_arg5 : BufTy.Contents (Elt Ideal) arg5.view.ty) (X_arg9 : BufTy.Contents (Elt Ideal) arg9.view.ty) (X_arg10 : BufTy.Contents (Elt Ideal) arg10.view.ty) (X_arg19 : BufTy.Contents (Elt Ideal) arg19.view.ty) (X_arg20 : BufTy.Contents (Elt Ideal) arg20.view.ty) (X_arg21 : BufTy.Contents (Elt Ideal) arg21.view.ty)
    (G22 : BufTy.Contents (Elt Ideal) arg22.view.ty) (G23 : BufTy.Contents (Elt Ideal) arg23.view.ty) (init) (y : S2048x256.Idx) (n : ℕ) (hn : n ≤ (k0_t1_loop i).trips) :
    arg23.view.read (Elt Ideal) (arg23.view.writes (Elt Ideal) G23 (st_k0_t1 (F := Ideal) Variants.none c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 X_arg5 X_arg9 X_arg10 X_arg19 X_arg20 X_arg21 G22 G23 init n).2.2) y
      = arg23.view.read (Elt Ideal) G23 y
        + (if (y 0).val / 256 < n then dvTerm (arg9.view.read (Elt Ideal) X_arg9) (arg21.view.read (Elt Ideal) X_arg21) (i 2) y else (0 : EReal)) := by
  induction n with
  | zero => rw [if_neg (Nat.not_lt_zero _), add_zero]; rfl
  | succ n ih =>
    rw [st_k0_t1_succ (F := Ideal) Variants.none c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 X_arg5 X_arg9 X_arg10 X_arg19 X_arg20 X_arg21 G22 G23 init ⟨n, hn⟩]
    dsimp only
    rw [View.writes_append, trip_dv, ih (Nat.le_of_succ_le hn)]
    by_cases h1 : (y 0).val / 256 < n
    · rw [if_pos h1, if_neg (by show ¬ (y 0).val / 256 = n; omega), if_pos (by omega), add_zero]
    · by_cases h2 : (y 0).val / 256 = n
      · rw [if_neg h1, if_pos (by exact h2), if_pos (by omega), add_zero]
      · rw [if_neg h1, if_neg (by exact h2), if_neg (by omega), add_zero, add_zero]

end Cert.KernelIdeal.Attn

end
-- ==== Proof.KernelIdealAttnPoint.lean ====
/- What one point of the backward attention call leaves in the scratch that sums the gradient of the values, in the scratch
   that holds the incoming gradient, and in the two outputs read off them, by the case of the point. -/
module

public import proofs.«01_k».proof.Proof.KernelIdealAttnLoop
public import proofs.«01_k».proof.Proof.KernelIdealAttnRunA
public import proofs.«01_k».proof.Proof.KernelIdealAttnRunB
public import proofs.«01_k».proof.Proof.KernelIdealAttnRunC
public import proofs.«01_k».proof.Proof.KernelIdealAttnRunD

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

/-! A buffer loaded or stored whole. -/

theorem load_whole {e : EltTy} (M : Memref sig .tc .vmem S2048x256 e) (h : M.IsWhole) (x : Vec Ideal S2048x256 e) (inb) :
    M.view.readAt (Elt Ideal) (Rect.unit (s := S2048x256) ![0, 0] S2048x256.size inb).toLoadRect (h.unread x) = x := by
  funext y
  refine (View.readAt_apply _ _ _).trans ?_
  refine Eq.trans (congrArg (M.view.read (Elt Ideal) (h.unread x)) (funext fun a => Fin.ext ?_)) (congrFun (h.read_unread x) y)
  match a with
  | ⟨0, _⟩ => exact (by omega : 0 + 1 * (y 0).val = (y 0).val)
  | ⟨1, _⟩ => exact (by omega : 0 + 1 * (y 1).val = (y 1).val)

theorem load_all {e : EltTy} (M : Memref sig .tc .vmem S2048x256 e) (f : BufTy.Contents (Elt Ideal) M.view.ty) (inb) (y : S2048x256.Idx) :
    M.view.readAt (Elt Ideal) (Rect.unit (s := S2048x256) ![0, 0] S2048x256.size inb).toLoadRect f y = M.view.read (Elt Ideal) f y := by
  refine (View.readAt_apply _ _ _).trans ?_
  refine congrArg (M.view.read (Elt Ideal) f) (funext fun a => Fin.ext ?_)
  match a with
  | ⟨0, _⟩ => exact (by omega : 0 + 1 * (y 0).val = (y 0).val)
  | ⟨1, _⟩ => exact (by omega : 0 + 1 * (y 1).val = (y 1).val)

theorem store_whole {e : EltTy} (M : Memref sig .tc .vmem S2048x256 e) (f : BufTy.Contents (Elt Ideal) M.view.ty) (inb) (A : Vec Ideal S2048x256 e)
    (L : List (View.Piece (Elt Ideal) S2048x256 e)) :
    M.view.read (Elt Ideal) (M.view.writes (Elt Ideal) f (⟨Rect.unit (s := S2048x256) ![0, 0] S2048x256.size inb, A⟩ :: L)) = A := by
  funext y
  rw [View.read_writes_cons_hit_of_coords _ _ _ _ _ (ix2 (⟨(y 0).val, (y 0).isLt⟩ : Fin 2048) (⟨(y 1).val, (y 1).isLt⟩ : Fin 256)) y
    (fun a => by
      match a with
      | ⟨0, _⟩ => exact (by omega : (y 0).val = 0 + 1 * (y 0).val)
      | ⟨1, _⟩ => exact (by omega : (y 1).val = 0 + 1 * (y 1).val))]
  refine congrArg A (funext fun a => ?_)
  match a with
  | ⟨0, _⟩ => rfl
  | ⟨1, _⟩ => rfl

/-- The two stores of the query block's own keys, over a buffer that already has the earlier keys' part. -/
theorem diag_dv (i : grid0.Coords) (M9 : Memref sig .tc .vmem S1x2x1x8x256x256 .bf16) (M21 : Memref sig .tc .vmem S2048x256 .bf16) (M23 : Memref sig .tc .vmem S2048x256 .f32)
    (X9 : BufTy.Contents (Elt Ideal) M9.view.ty) (X21 : BufTy.Contents (Elt Ideal) M21.view.ty) (f : BufTy.Contents (Elt Ideal) M23.view.ty)
    (L : List (View.Piece (Elt Ideal) S2048x256 .f32)) (Z : S2048x256.Idx → EReal) (w : Vec Ideal S1x2x1x8x256x256 .bf16) (g : Vec Ideal S2048x256 .bf16)
    (hw : M9.view.read (Elt Ideal) X9 = w) (hg : M21.view.read (Elt Ideal) X21 = g)
    (hL : ∀ y : S2048x256.Idx, M23.view.read (Elt Ideal) (M23.view.writes (Elt Ideal) f L) y = Z y + (if (y 0).val / 256 < (i 2).val then dvTerm w g (i 2) y else (0 : EReal)))
    (y : S2048x256.Idx) :
    M23.view.read (Elt Ideal) (M23.view.writes (Elt Ideal) f
      (⟨Rect.unit (s := S2048x256) (k0_off14 i) S256x128.size (k0_off14_inb i),
        k0_pay63 (M21.view.readAt (Elt Ideal) (Rect.unit (s := S2048x256) (k0_off14 i) S256x128.size (k0_off14_inb i)).toLoadRect X21)
          (M9.view.readAt (Elt Ideal) (Rect.unit (s := S1x2x1x8x256x256) (k0_off16 i) S1x1x1x1x256x256.size (k0_off16_inb i)).toLoadRect X9)
          (M23.view.readAt (Elt Ideal) (Rect.unit (s := S2048x256) (k0_off14 i) S256x128.size (k0_off14_inb i)).toLoadRect
            (M23.view.writes (Elt Ideal) f (⟨Rect.unit (s := S2048x256) (k0_off13 i) S256x128.size (k0_off13_inb i),
              k0_pay62 (M21.view.readAt (Elt Ideal) (Rect.unit (s := S2048x256) (k0_off13 i) S256x128.size (k0_off13_inb i)).toLoadRect X21)
                (M9.view.readAt (Elt Ideal) (Rect.unit (s := S1x2x1x8x256x256) (k0_off15 i) S1x1x1x1x256x256.size (k0_off15_inb i)).toLoadRect X9)
                (M23.view.readAt (Elt Ideal) (Rect.unit (s := S2048x256) (k0_off13 i) S256x128.size (k0_off13_inb i)).toLoadRect (M23.view.writes (Elt Ideal) f L))⟩ :: L)))⟩
        :: ⟨Rect.unit (s := S2048x256) (k0_off13 i) S256x128.size (k0_off13_inb i),
              k0_pay62 (M21.view.readAt (Elt Ideal) (Rect.unit (s := S2048x256) (k0_off13 i) S256x128.size (k0_off13_inb i)).toLoadRect X21)
                (M9.view.readAt (Elt Ideal) (Rect.unit (s := S1x2x1x8x256x256) (k0_off15 i) S1x1x1x1x256x256.size (k0_off15_inb i)).toLoadRect X9)
                (M23.view.readAt (Elt Ideal) (Rect.unit (s := S2048x256) (k0_off13 i) S256x128.size (k0_off13_inb i)).toLoadRect (M23.view.writes (Elt Ideal) f L))⟩ :: L)) y
      = Z y + (if (y 0).val / 256 ≤ (i 2).val then dvTerm w g (i 2) y else (0 : EReal)) := by
  have hi : (i 2).val < 8 := (i 2).isLt
  refine store_lanes M23 f _ _ _ _ ((i 2).val * 256) (off14_eq i) (off13_eq i) _ _ L y _ (fun x l h0 h1 => ?_) (fun x l h0 h1 => ?_) (fun h => ?_)
  · have hb : (y 0).val / 256 = (i 2).val := by omega
    refine (pay62_at _ _ _ x l).trans ?_
    rw [if_pos hb.le]
    refine congrArg₂ (· + ·) ?_ (Finset.sum_congr rfl fun p _ => congrArg₂ (· * ·) ?_ ?_)
    · refine (load2 M23 _ _ _ _ _ (off13_eq i) x l y h0 h1).trans ((hL y).trans ?_)
      rw [if_neg (by omega), add_zero]
    · refine (load6 M9 X9 _ _ _ _ (off15_eq i) p x (headOf y) (blockOf y) (by show (y 1).val / 128 = 0; omega) hb).trans ?_
      have : x = rowOf y := Fin.ext (by show x.val = (y 0).val % 256; omega)
      rw [this, hw]
    · exact (load2 M21 X21 _ _ _ _ (off13_eq i) p l (at2 (i 2) p y) rfl h1).trans (congrFun hg _)
  · have hb : (y 0).val / 256 = (i 2).val := by omega
    refine (pay63_at _ _ _ x l).trans ?_
    rw [if_pos hb.le]
    refine congrArg₂ (· + ·) ?_ (Finset.sum_congr rfl fun p _ => congrArg₂ (· * ·) ?_ ?_)
    · refine (load2 M23 _ _ _ _ _ (off14_eq i) x l y h0 h1).trans ?_
      refine Eq.trans (View.read_writes_cons_miss_of_axis _ _ _ _ _ (1 : Fin 2) 0 128 (congrFun (off13_eq i) 1) rfl rfl (Or.inr (by omega))) ((hL y).trans ?_)
      rw [if_neg (by omega), add_zero]
    · refine (load6 M9 X9 _ _ _ _ (off16_eq i) p x (headOf y) (blockOf y) (by show (y 1).val / 128 = 1; omega) hb).trans ?_
      have : x = rowOf y := Fin.ext (by show x.val = (y 0).val % 256; omega)
      rw [this, hw]
    · exact (load2 M21 X21 _ _ _ _ (off14_eq i) p l (at2 (i 2) p y) rfl h1).trans (congrFun hg _)
  · rw [hL y]
    by_cases h1 : (y 0).val / 256 < (i 2).val
    · rw [if_pos h1, if_pos (by omega)]
    · rw [if_neg h1, if_neg (by omega)]

/-- The second loop makes no trip, so writes nothing. -/
theorem late_nil (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (v19 v20 : BitVec 32) (X_arg5 : BufTy.Contents (Elt Ideal) arg5.view.ty) (X_arg9 : BufTy.Contents (Elt Ideal) arg9.view.ty) (X_arg10 : BufTy.Contents (Elt Ideal) arg10.view.ty) (X_arg19 : BufTy.Contents (Elt Ideal) arg19.view.ty) (X_arg20 : BufTy.Contents (Elt Ideal) arg20.view.ty) (X_arg21 : BufTy.Contents (Elt Ideal) arg21.view.ty) (G22 : BufTy.Contents (Elt Ideal) arg22.view.ty) (G23 : BufTy.Contents (Elt Ideal) arg23.view.ty) (init) :
    (st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 v20 X_arg5 X_arg9 X_arg10 X_arg19 X_arg20 X_arg21 G22 G23 init
      (Scf.trips (k0_t2_loop i).lb (k0_t2_loop i).ub (k0_t2_loop i).st)).2.2 = [] := by
  rw [show Scf.trips (k0_t2_loop i).lb (k0_t2_loop i).ub (k0_t2_loop i).st = 0 from trips2 i]
  rfl

/-- The first loop's part, over a buffer holding `Z`. -/
theorem early_dv (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (v19 : BitVec 32) (X_arg5 : BufTy.Contents (Elt Ideal) arg5.view.ty) (X_arg9 : BufTy.Contents (Elt Ideal) arg9.view.ty) (X_arg10 : BufTy.Contents (Elt Ideal) arg10.view.ty) (X_arg19 : BufTy.Contents (Elt Ideal) arg19.view.ty) (X_arg20 : BufTy.Contents (Elt Ideal) arg20.view.ty) (X_arg21 : BufTy.Contents (Elt Ideal) arg21.view.ty) (G22 : BufTy.Contents (Elt Ideal) arg22.view.ty) (G23 : BufTy.Contents (Elt Ideal) arg23.view.ty) (init)
    (Z : S2048x256.Idx → EReal) (w : Vec Ideal S1x2x1x8x256x256 .bf16) (g : Vec Ideal S2048x256 .bf16)
    (hw : arg9.view.read (Elt Ideal) X_arg9 = w) (hg : arg21.view.read (Elt Ideal) X_arg21 = g) (hZ : ∀ y, arg23.view.read (Elt Ideal) G23 y = Z y) (y : S2048x256.Idx) :
    arg23.view.read (Elt Ideal) (arg23.view.writes (Elt Ideal) G23 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 X_arg5 X_arg9 X_arg10 X_arg19 X_arg20 X_arg21 G22 G23 init
      (Scf.trips (k0_t1_loop i).lb (k0_t1_loop i).ub (k0_t1_loop i).st)).2.2) y
      = Z y + (if (y 0).val / 256 < (i 2).val then dvTerm w g (i 2) y else (0 : EReal)) := by
  subst hw hg
  refine (loop_dv c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v19 X_arg5 X_arg9 X_arg10 X_arg19 X_arg20 X_arg21 G22 G23 init y _ (le_refl (k0_t1_loop i).trips)).trans ?_
  rw [hZ y]
  exact congrArg (Z y + ·) (by rw [trips1 i])

theorem dv_A (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) (y : S2048x256.Idx) :
    arg23.view.read (Elt Ideal) (arg23.view.writes (Elt Ideal) (base harg23 x20 (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J20) (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L20) y
      = (0 : EReal) + (if (y 0).val / 256 ≤ (i 2).val then dvTerm x6 (k0_pay15 (k0_pay12 x3) x5) (i 2) y else (0 : EReal)) := by
  unfold runA
  dsimp only [base, cond]
  sl_unfold_run_names
  refine diag_dv i arg9 arg21 arg23 _ _ _ _ (fun _ => (0 : EReal)) x6 (k0_pay15 (k0_pay12 x3) x5) (harg9.read_unread x6) ?_ (fun y => ?_) y
  · refine (store_whole arg21 _ _ _ _).trans ?_
    rw [load_whole arg6 harg6, load_whole arg8 harg8]
  · rw [late_nil, List.nil_append, View.writes_append]
    refine early_dv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ (fun _ => (0 : EReal)) x6 (k0_pay15 (k0_pay12 x3) x5) (harg9.read_unread x6) ?_ (fun y => ?_) y
    · refine (store_whole arg21 _ _ _ _).trans ?_
      rw [load_whole arg6 harg6, load_whole arg8 harg8]
    · rw [store_whole arg23]
      pointwise [k0_pay18]

theorem g_A (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg21.view.read (Elt Ideal) (arg21.view.writes (Elt Ideal) (base harg21 x18 (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J18) (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L18) = k0_pay15 (k0_pay12 x3) x5 := by
  unfold runA
  dsimp only [base, cond]
  sl_unfold_run_names
  refine (store_whole arg21 _ _ _ _).trans ?_
  rw [load_whole arg6 harg6, load_whole arg8 harg8]

theorem dg_A (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg16.view.read (Elt Ideal) (arg16.view.writes (Elt Ideal) (base harg16 x13 (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J13) (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L13) = k0_pay16 (k0_pay12 x3) x5 x4 := by
  unfold runA
  dsimp only [base, cond]
  sl_unfold_run_names
  refine (store_whole arg16 _ _ _ _).trans ?_
  rw [load_whole arg6 harg6, load_whole arg8 harg8, load_whole arg7 harg7]

theorem dv_D (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) (y : S2048x256.Idx) :
    arg23.view.read (Elt Ideal) (arg23.view.writes (Elt Ideal) (base harg23 x20 (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J20) (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L20) y
      = (0 : EReal) + (if (y 0).val / 256 ≤ (i 2).val then dvTerm x6 (k0_pay15 (k0_pay12 x3) x5) (i 2) y else (0 : EReal)) := by
  unfold runD
  dsimp only [base, cond]
  sl_unfold_run_names
  refine diag_dv i arg9 arg21 arg23 _ _ _ _ (fun _ => (0 : EReal)) x6 (k0_pay15 (k0_pay12 x3) x5) (harg9.read_unread x6) ?_ (fun y => ?_) y
  · refine (store_whole arg21 _ _ _ _).trans ?_
    rw [load_whole arg6 harg6, load_whole arg8 harg8]
  · rw [late_nil, List.nil_append, View.writes_append]
    refine early_dv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ (fun _ => (0 : EReal)) x6 (k0_pay15 (k0_pay12 x3) x5) (harg9.read_unread x6) ?_ (fun y => ?_) y
    · refine (store_whole arg21 _ _ _ _).trans ?_
      rw [load_whole arg6 harg6, load_whole arg8 harg8]
    · rw [store_whole arg23]
      pointwise [k0_pay18]

theorem g_D (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg21.view.read (Elt Ideal) (arg21.view.writes (Elt Ideal) (base harg21 x18 (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J18) (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L18) = k0_pay15 (k0_pay12 x3) x5 := by
  unfold runD
  dsimp only [base, cond]
  sl_unfold_run_names
  refine (store_whole arg21 _ _ _ _).trans ?_
  rw [load_whole arg6 harg6, load_whole arg8 harg8]

theorem dg_D (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg16.view.read (Elt Ideal) (arg16.view.writes (Elt Ideal) (base harg16 x13 (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J13) (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L13) = k0_pay16 (k0_pay12 x3) x5 x4 := by
  unfold runD
  dsimp only [base, cond]
  sl_unfold_run_names
  refine (store_whole arg16 _ _ _ _).trans ?_
  rw [load_whole arg6 harg6, load_whole arg8 harg8, load_whole arg7 harg7]

theorem dv_B (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) (y : S2048x256.Idx) :
    arg23.view.read (Elt Ideal) (arg23.view.writes (Elt Ideal) (base harg23 x20 (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J20) (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L20) y
      = x20 y + (if (y 0).val / 256 ≤ (i 2).val then dvTerm x6 x18 (i 2) y else (0 : EReal)) := by
  unfold runB
  dsimp only [base, cond]
  sl_unfold_run_names
  refine diag_dv i arg9 arg21 arg23 _ _ _ _ x20 x6 x18 (harg9.read_unread x6) (harg21.read_unread x18) (fun y => ?_) y
  rw [late_nil, List.nil_append]
  exact early_dv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ x20 x6 x18 (harg9.read_unread x6) (harg21.read_unread x18) (congrFun (harg23.read_unread x20)) y

theorem g_B (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg21.view.read (Elt Ideal) (arg21.view.writes (Elt Ideal) (base harg21 x18 (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J18) (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L18) = x18 :=
  harg21.read_unread x18

theorem dg_B (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : ¬cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg16.view.read (Elt Ideal) (arg16.view.writes (Elt Ideal) (base harg16 x13 (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J13) (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L13) = x13 :=
  harg16.read_unread x13

theorem dv_C (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) (y : S2048x256.Idx) :
    arg23.view.read (Elt Ideal) (arg23.view.writes (Elt Ideal) (base harg23 x20 (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J20) (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L20) y
      = x20 y + (if (y 0).val / 256 ≤ (i 2).val then dvTerm x6 x18 (i 2) y else (0 : EReal)) := by
  unfold runC
  dsimp only [base, cond]
  sl_unfold_run_names
  refine diag_dv i arg9 arg21 arg23 _ _ _ _ x20 x6 x18 (harg9.read_unread x6) (harg21.read_unread x18) (fun y => ?_) y
  rw [late_nil, List.nil_append]
  exact early_dv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ x20 x6 x18 (harg9.read_unread x6) (harg21.read_unread x18) (congrFun (harg23.read_unread x20)) y

theorem g_C (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg21.view.read (Elt Ideal) (arg21.view.writes (Elt Ideal) (base harg21 x18 (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J18) (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L18) = x18 :=
  harg21.read_unread x18

theorem dg_C (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) :
    arg16.view.read (Elt Ideal) (arg16.view.writes (Elt Ideal) (base harg16 x13 (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J13) (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L13) = x13 :=
  harg16.read_unread x13

theorem out_C (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x2x1x8x256x256 .bf16) (harg9 : arg9.IsWhole) (arg10 : Memref sig .tc .vmem S1x2x1x8x256x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S256x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x256 .bf16) (harg21 : arg21.IsWhole) (arg22 : Memref sig .tc .vmem S2048x256 .f32) (harg22 : arg22.IsWhole) (arg23 : Memref sig .tc .vmem S2048x256 .f32) (harg23 : arg23.IsWhole) (hc0 : ¬cond0 i) (hc1 : ¬cond1 i) (hc2 : cond2 i) (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S1x2x1x8x256x256 .bf16) (x7 : Vec Ideal S1x2x1x8x256x256 .bf16) (x8 : Vec Ideal S1x128 .f32) (x9 : Vec Ideal S1x128 .f32) (x10 : Vec Ideal S256x256 .bf16) (x11 : Vec Ideal S2048x256 .bf16) (x12 : Vec Ideal S2048x256 .bf16) (x13 : Vec Ideal S2048x256 .bf16) (x14 : Vec Ideal S1x128 .f32) (x15 : Vec Ideal S1x128 .f32) (x16 : Vec Ideal S2048x256 .bf16) (x17 : Vec Ideal S2048x256 .bf16) (x18 : Vec Ideal S2048x256 .bf16) (x19 : Vec Ideal S2048x256 .f32) (x20 : Vec Ideal S2048x256 .f32) (y : S2048x256.Idx) :
    arg15.view.read (Elt Ideal) (arg15.view.writes (Elt Ideal) (base harg15 x12 (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.J12) (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1.L12) y
      = x20 y + (if (y 0).val / 256 ≤ (i 2).val then dvTerm x6 x18 (i 2) y else (0 : EReal)) := by
  refine Eq.trans ?_ (dv_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 y)
  unfold runC
  dsimp only [base, cond]
  sl_unfold_run_names
  refine (congrFun (store_whole arg15 _ _ _ _) y).trans ?_
  unfold k0_pay7
  exact load_all arg23 _ _ y

end Cert.KernelIdeal.Attn

end
-- ==== Proof.KernelIdealAttnStep.lean ====
/- The statement that the points of the backward attention call carry to each other: the scratch buffers hold the incoming
   gradient of the two heads at hand and the sum, over the query blocks so far, of the weights against it. -/
module

public import proofs.«01_k».proof.Proof.KernelIdealAttnPoint
public import proofs.«01_k».proof.Proof.KernelIdealAttnLaunch

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable (m : (ℓ : Loc nD τ sig) → Buf (Elt Ideal) ℓ)

/-! The blocks by the pair of heads `p` (of both sequences) and the query block `q`. -/

abbrev rowG (p : ℕ) (y : S2048x256.Idx) : Fin 4096 := ⟨p / 16 % 2 * 2048 + (y 0).val, by have : (y 0).val < 2048 := (y 0).isLt; omega⟩
abbrev colG (p : ℕ) (y : S2048x256.Idx) : Fin 4096 := ⟨p % 16 * 256 + (y 1).val, by have : (y 1).val < 256 := (y 1).isLt; omega⟩
def gate (c : Dev nD) (p : ℕ) : Vec Ideal S2048x256 .bf16 := fun y =>
  V m c main_arg0 (ix2 (rowG p y) (⟨12288 + (p % 16 * 256 + (y 1).val), by have : (y 1).val < 256 := (y 1).isLt; omega⟩ : Fin 16384))
def dog (c : Dev nD) (p : ℕ) : Vec Ideal S2048x256 .bf16 := fun y => V m c main_arg1 (ix2 (rowG p y) (colG p y))
def oo (c : Dev nD) (p : ℕ) : Vec Ideal S2048x256 .bf16 := fun y => V m c main_v61 (ix2 (rowG p y) (colG p y))
def wt (c : Dev nD) (p : ℕ) (q : Fin 8) : Vec Ideal S1x2x1x8x256x256 .bf16 := fun z =>
  V m c main_v64 (ix6 (⟨p / 16 % 2, by omega⟩ : Fin 2) (⟨p % 16 * 2 + (z 1).val, by have : (z 1).val < 2 := (z 1).isLt; omega⟩ : Fin 32) q
    (⟨(z 3).val, (z 3).isLt⟩ : Fin 8) (⟨(z 4).val, (z 4).isLt⟩ : Fin 256) (⟨(z 5).val, (z 5).isLt⟩ : Fin 256))

theorem idxs (t : Fin cfg0.N) : (grid0.coords t 0).val = t.val / 128 % 2 ∧ (grid0.coords t 1).val = t.val / 8 % 16 ∧ (grid0.coords t 2).val = t.val % 8 :=
  ⟨Pipeline.Grid.coords_val t 0 (by decide) rfl, Pipeline.Grid.coords_val t 1 (by decide) rfl,
    (Pipeline.Grid.coords_val t 2 (by decide) rfl : (grid0.coords t 2).val = t.val / 1 % 8).trans (by rw [Nat.div_one])⟩

theorem idx : ∀ t : Fin cfg0.N, win0_3.index t = ![t.val / 128 % 2, 48 + t.val / 8 % 16] ∧ win0_4.index t = ![t.val / 128 % 2, t.val / 8 % 16]
    ∧ win0_5.index t = ![t.val / 128 % 2, t.val / 8 % 16] ∧ win0_6.index t = ![t.val / 128 % 2, t.val / 8 % 16, t.val % 8, 0, 0, 0]
    ∧ win0_12.index t = ![t.val / 128 % 2, t.val / 8 % 16] ∧ win0_13.index t = ![t.val / 128 % 2, t.val / 8 % 16] :=
  (by decide +kernel : ∀ t : Fin grid0.N, _)

theorem iblk3 (c : Dev nD) (t : Fin cfg0.N) : iblk m c 3 t = gate m c (t.val / 8) := by
  have ht : t.val < cfg0.N := t.isLt
  funext y
  unfold gate
  blk_point [iblk, idx t]

theorem iblk4 (c : Dev nD) (t : Fin cfg0.N) : iblk m c 4 t = oo m c (t.val / 8) := by
  have ht : t.val < cfg0.N := t.isLt
  funext y
  unfold oo
  blk_point [iblk, idx t]

theorem iblk5 (c : Dev nD) (t : Fin cfg0.N) : iblk m c 5 t = dog m c (t.val / 8) := by
  have ht : t.val < cfg0.N := t.isLt
  funext y
  unfold dog
  blk_point [iblk, idx t]

theorem read6 (t : Fin cfg0.N) (q : Fin 8) (hq : q.val = t.val % 8) (A : S2x32x8x8x256x256.Idx → Elt Ideal .bf16) (z : S1x2x1x8x256x256.Idx) :
    A ((win0_6.rect t).emb z)
      = A (ix6 (⟨t.val / 8 / 16 % 2, by omega⟩ : Fin 2) (⟨t.val / 8 % 16 * 2 + (z 1).val, by have : (z 1).val < 2 := (z 1).isLt; omega⟩ : Fin 32) q
    (⟨(z 3).val, (z 3).isLt⟩ : Fin 8) (⟨(z 4).val, (z 4).isLt⟩ : Fin 256) (⟨(z 5).val, (z 5).isLt⟩ : Fin 256)) := by
  have e := (idx t).2.2.2.1
  refine congrArg A (funext fun a => Fin.ext ?_)
  refine (win0_6.rect_emb_val t z a rfl).trans ?_
  rw [e]
  have h0 : (z 0).val = 0 := Nat.lt_one_iff.1 (z 0).isLt
  have h2 : (z 2).val = 0 := Nat.lt_one_iff.1 (z 2).isLt
  match a with
  | 0 => show t.val / 128 % 2 * 1 + (z 0).val = t.val / 8 / 16 % 2; omega
  | 1 => show t.val / 8 % 16 * 2 + (z 1).val = t.val / 8 % 16 * 2 + (z 1).val; rfl
  | 2 => show t.val % 8 * 1 + (z 2).val = q.val; omega
  | 3 => exact (show 0 * 8 + (z 3).val = (z 3).val by omega)
  | 4 => exact (show 0 * 256 + (z 4).val = (z 4).val by omega)
  | 5 => exact (show 0 * 256 + (z 5).val = (z 5).val by omega)

theorem read6' (t : Fin cfg0.N) (q : Fin 8) (hq : q.val = t.val % 8) (A : S2x32x8x8x256x256.Idx → Elt Ideal .bf16) (z : S1x2x1x8x256x256.Idx) :
    ((cfg0.win 6).blk t).view.read (Elt Ideal) A z
      = A (ix6 (⟨t.val / 8 / 16 % 2, by omega⟩ : Fin 2) (⟨t.val / 8 % 16 * 2 + (z 1).val, by have : (z 1).val < 2 := (z 1).isLt; omega⟩ : Fin 32) q
    (⟨(z 3).val, (z 3).isLt⟩ : Fin 8) (⟨(z 4).val, (z 4).isLt⟩ : Fin 256) (⟨(z 5).val, (z 5).isLt⟩ : Fin 256)) := read6 t q hq A z

theorem iblk6 (c : Dev nD) (t : Fin cfg0.N) (q : Fin 8) (hq : q.val = t.val % 8) : iblk m c 6 t = wt m c (t.val / 8) q := by
  funext z
  have h : ∀ A : S2x32x8x8x256x256.Idx → Elt Ideal .bf16, V m c main_v64 = A → ((cfg0.win 6).blk t).view.read (Elt Ideal) A z = wt m c (t.val / 8) q z := by
    intro A hA
    unfold wt
    rw [hA]
    exact read6' t q hq A z
  exact h _ rfl

/-- The incoming gradient of the attention's output. -/
def gd (c : Dev nD) (p : ℕ) : Vec Ideal S2048x256 .bf16 := k0_pay15 (k0_pay12 (gate m c p)) (dog m c p)
/-- The gradient of the gate. -/
def dg (c : Dev nD) (p : ℕ) : Vec Ideal S2048x256 .bf16 := k0_pay16 (k0_pay12 (gate m c p)) (dog m c p) (oo m c p)

/-- What the query blocks before `n` add to the gradient of the values. -/
def dvPart (c : Dev nD) (p n : ℕ) (y : S2048x256.Idx) : EReal :=
  ∑ q : Fin 8, if q.val < n ∧ (y 0).val / 256 ≤ q.val then dvTerm (wt m c p q) (gd m c p) q y else (0 : EReal)

theorem dvPart_zero (c : Dev nD) (p : ℕ) (y : S2048x256.Idx) : dvPart m c p 0 y = 0 :=
  Finset.sum_eq_zero fun q _ => if_neg fun h => absurd h.1 (Nat.not_lt_zero _)

theorem dvPart_succ (c : Dev nD) (p : ℕ) (q : Fin 8) (y : S2048x256.Idx) :
    dvPart m c p (q.val + 1) y = dvPart m c p q.val y + (if (y 0).val / 256 ≤ q.val then dvTerm (wt m c p q) (gd m c p) q y else (0 : EReal)) := by
  unfold dvPart
  have e := Finset.sum_ite_eq Finset.univ q (fun x : Fin 8 => if (y 0).val / 256 ≤ x.val then dvTerm (wt m c p x) (gd m c p) x y else (0 : EReal))
  rw [if_pos (Finset.mem_univ q)] at e
  rw [← e, ← Finset.sum_add_distrib]
  refine Finset.sum_congr rfl fun x _ => ?_
  by_cases hx : q = x
  · subst hx
    rw [if_pos rfl, if_neg (c := q.val < q.val ∧ (y 0).val / 256 ≤ q.val) (fun h => absurd h.1 (Nat.lt_irrefl _)), zero_add]
    by_cases hy : (y 0).val / 256 ≤ q.val
    · rw [if_pos hy, if_pos ⟨Nat.lt_succ_self _, hy⟩]
    · rw [if_neg hy, if_neg (fun h => hy h.2)]
  · have hx' : q.val ≠ x.val := fun h => hx (Fin.ext h)
    rw [if_neg hx, add_zero]
    by_cases hy : x.val < q.val ∧ (y 0).val / 256 ≤ x.val
    · rw [if_pos hy, if_pos ⟨Nat.lt_succ_of_lt hy.1, hy.2⟩]
    · rw [if_neg hy, if_neg (fun h => hy ⟨by omega, h.2⟩)]

/-- Between two query blocks of a pair of heads: the incoming gradient, and the sum so far. After the last: the outputs. -/
def track : Track Ideal where
  st c n _ _ s2 _ s4 := n % 8 ≠ 0 → s2 = gd m c (n / 8) ∧ ∀ y, s4 y = dvPart m c (n / 8) (n % 8) y
  a10 _ _ _ _ := True
  a11 _ _ _ _ := True
  a12 c t _ X := t.val % 8 = 7 → ∀ y, X y = dvPart m c (t.val / 8) 8 y
  a13 c t _ X := X = dg m c (t.val / 8)
  a14 _ _ _ _ := True
  a15 _ _ _ _ := True

theorem kept13 (c : Dev nD) (t : Fin cfg0.N) (h : t.val % 8 ≠ 0) (Y) (hY : (rdat m (track m) c).Finds 13 t Y) : Y = dg m c (t.val / 8) := by
  rcases ((rdat m (track m) c).finds_of_pos (w := 13) rfl (by omega) Y).1 hY with hf | ⟨Y', -, ha⟩
  · have := (flush0_13 ⟨t.val - 1, _⟩).1 hf
    dsimp only at this
    omega
  · have e : Y = dg m c ((t.val - 1) / 8) := ha.2
    rw [e, show (t.val - 1) / 8 = t.val / 8 by omega]

theorem step : (track m).Step m := by
  intro c t Y s0 s1 s2 s3 s4 hY hst
  have ht : t.val < 256 := Nat.lt_of_lt_of_eq t.isLt N_0
  have e3 : Y 3 = gate m c (t.val / 8) := (finds3 m (track m) c t (Y 3) (hY 3)).trans (iblk3 m c t)
  have e4 : Y 4 = oo m c (t.val / 8) := (finds4 m (track m) c t (Y 4) (hY 4)).trans (iblk4 m c t)
  have e5 : Y 5 = dog m c (t.val / 8) := (finds5 m (track m) c t (Y 5) (hY 5)).trans (iblk5 m c t)
  have e6 : Y 6 = wt m c (t.val / 8) (grid0.coords t 2) := (finds6 m (track m) c t (Y 6) (hY 6)).trans (iblk6 m c t _ (idxs t).2.2)
  have eg : k0_pay15 (k0_pay12 (Y 3)) (Y 5) = gd m c (t.val / 8) := by rw [e3, e5]; rfl
  have ed : k0_pay16 (k0_pay12 (Y 3)) (Y 5) (Y 4) = dg m c (t.val / 8) := by rw [e3, e4, e5]; rfl
  have eq : (grid0.coords t 2).val = t.val % 8 := (idxs t).2.2
  have es : ∀ y : S2048x256.Idx, dvPart m c (t.val / 8) (t.val % 8 + 1) y = dvPart m c (t.val / 8) (t.val % 8) y
      + (if (y 0).val / 256 ≤ (grid0.coords t 2).val then dvTerm (Y 6) (gd m c (t.val / 8)) (grid0.coords t 2) y else (0 : EReal)) := fun y => by
    rw [e6, ← eq]
    exact dvPart_succ m c (t.val / 8) (grid0.coords t 2) y
  unfold pieces
  by_cases h0 : t.val = 0
  · simp only [dif_pos h0]
    have hz : t.val % 8 = 0 := by omega
    refine ⟨fun hn => ⟨?_, fun y => ?_⟩, trivial, trivial, fun h => absurd h (by omega), ?_, trivial, trivial⟩
    · rw [show (t.val + 1) / 8 = t.val / 8 by omega]
      exact (g_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 ((cond0_iff t).2 h0) ((cond1_iff t).2 (by omega)) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4).trans eg
    · rw [show (t.val + 1) / 8 = t.val / 8 by omega, show (t.val + 1) % 8 = t.val % 8 + 1 by omega, es y, hz, dvPart_zero]
      refine (dv_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 ((cond0_iff t).2 h0) ((cond1_iff t).2 (by omega)) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4 y).trans ?_
      rw [eg]
    · exact (dg_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 ((cond0_iff t).2 h0) ((cond1_iff t).2 (by omega)) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4).trans ed
  · by_cases h1 : t.val % 8 = 0
    · simp only [dif_neg h0, dif_pos h1]
      have hz : t.val % 8 = 0 := by omega
      refine ⟨fun hn => ⟨?_, fun y => ?_⟩, trivial, trivial, fun h => absurd h (by omega), ?_, trivial, trivial⟩
      · rw [show (t.val + 1) / 8 = t.val / 8 by omega]
        exact (g_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) ((cond1_iff t).2 h1) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4).trans eg
      · rw [show (t.val + 1) / 8 = t.val / 8 by omega, show (t.val + 1) % 8 = t.val % 8 + 1 by omega, es y, hz, dvPart_zero]
        refine (dv_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) ((cond1_iff t).2 h1) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4 y).trans ?_
        rw [eg]
      · exact (dg_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) ((cond1_iff t).2 h1) (fun h => by have := (cond2_iff t).1 h; omega) (Y 0) (Y 1) (Y 2) (Y 3) (Y 4) (Y 5) (Y 6) (Y 7) (Y 8) (Y 9) (Y 10) (Y 11) (Y 12) (Y 13) (Y 14) (Y 15) s0 s1 s2 s3 s4).trans ed
    · by_cases h2 : t.val % 8 = 7
      · simp only [dif_neg h0, dif_neg h1, dif_pos h2]
        obtain ⟨eg', ev⟩ := hst h1
        refine ⟨fun hn => absurd (show (t.val + 1) % 8 = 0 by omega) hn, trivial, trivial, fun _ y => ?_, ?_, trivial, trivial⟩
        · have e8 : dvPart m c (t.val / 8) 8 y = dvPart m c (t.val / 8) (t.val % 8 + 1) y := by rw [h2]
          rw [e8, es y, ← ev y]
          refine (out_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) ((cond2_iff t).2 h2) (Y 0) (Y 1) (Y 2) (Y 3) (Y 4) (Y 5) (Y 6) (Y 7) (Y 8) (Y 9) (Y 10) (Y 11) (Y 12) (Y 13) (Y 14) (Y 15) s0 s1 s2 s3 s4 y).trans ?_
          rw [eg']
        · exact (dg_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) ((cond2_iff t).2 h2) (Y 0) (Y 1) (Y 2) (Y 3) (Y 4) (Y 5) (Y 6) (Y 7) (Y 8) (Y 9) (Y 10) (Y 11) (Y 12) (Y 13) (Y 14) (Y 15) s0 s1 s2 s3 s4).trans (kept13 m c t h1 (Y 13) (hY 13))
      · simp only [dif_neg h0, dif_neg h1, dif_neg h2]
        obtain ⟨eg', ev⟩ := hst h1
        refine ⟨fun hn => ⟨?_, fun y => ?_⟩, trivial, trivial, fun h => absurd h h2, ?_, trivial, trivial⟩
        · rw [show (t.val + 1) / 8 = t.val / 8 by omega]
          exact (g_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) (fun h => h2 ((cond2_iff t).1 h)) (Y 0) (Y 1) (Y 2) (Y 3) (Y 4) (Y 5) (Y 6) (Y 7) (Y 8) (Y 9) (Y 10) (Y 11) (Y 12) (Y 13) (Y 14) (Y 15) s0 s1 s2 s3 s4).trans eg'
        · rw [show (t.val + 1) / 8 = t.val / 8 by omega, show (t.val + 1) % 8 = t.val % 8 + 1 by omega, es y, ← ev y]
          refine (dv_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) (fun h => h2 ((cond2_iff t).1 h)) (Y 0) (Y 1) (Y 2) (Y 3) (Y 4) (Y 5) (Y 6) (Y 7) (Y 8) (Y 9) (Y 10) (Y 11) (Y 12) (Y 13) (Y 14) (Y 15) s0 s1 s2 s3 s4 y).trans ?_
          rw [eg']
        · exact (dg_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc0 hsc0 sc1 hsc1 sc2 hsc2 sc3 hsc3 sc4 hsc4 (fun h => h0 ((cond0_iff t).1 h)) (fun h => h1 ((cond1_iff t).1 h)) (fun h => h2 ((cond2_iff t).1 h)) (Y 0) (Y 1) (Y 2) (Y 3) (Y 4) (Y 5) (Y 6) (Y 7) (Y 8) (Y 9) (Y 10) (Y 11) (Y 12) (Y 13) (Y 14) (Y 15) s0 s1 s2 s3 s4).trans (kept13 m c t h1 (Y 13) (hY 13))

end Cert.KernelIdeal.Attn

end
-- ==== Proof.KernelIdealAttnHost.lean ====
module

public import proofs.«01_k».proof.Proof.Gen.KernelIdeal.Frame
public import proofs.«01_k».proof.Proof.Gen.ReferenceIdeal.Read
public import Idealize.ShloMosaic.Lib.StableHlo.RunRead
public import Idealize.ShloMosaic.Lib.StableHlo.ReadAt
public import Idealize.ShloMosaic.Lib.Claim

@[expose] public section

/-! What the attention call finds in the arrays that the host operations before it write: the same terms, over the same
    four arguments, as the reference's own forward lines write. -/

noncomputable section

namespace Cert.KernelIdeal.Attn

open Cert.KernelIdeal Cert.KernelIdeal.Gen Idealize.ShloMosaic Idealize.ShloMosaic.TcCoe Idealize.SL.Sem Idealize.ShloMosaic.StableHlo
open Cert.ReferenceIdeal.Read

theorem after_app {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

variable (W : Valuation τ sig (Elt Ideal))

section Stages

/-- The four arguments in a valuation. -/
abbrev a0 : (⟨S4096x16384, .bf16⟩ : BufTy).Contents (Elt Ideal) := W (Proc.devRef .tc main_arg0)
abbrev a2 : (⟨S1x128, .f32⟩ : BufTy).Contents (Elt Ideal) := W (Proc.devRef .tc main_arg2)
abbrev a3 : (⟨S1x128, .f32⟩ : BufTy).Contents (Elt Ideal) := W (Proc.devRef .tc main_arg3)

set_option maxHeartbeats 1000000 in
theorem stage0_z : StableHlo.after hostOps0 W (Proc.devRef .tc main_v39) = val_main_v48 (F := Ideal) (a0 W) (a2 W) (a3 W) := by
  after_reads_simp
  rfl

set_option maxHeartbeats 1000000 in
theorem stage0_nz : StableHlo.after hostOps0 W (Proc.devRef .tc main_v47) = val_main_v56 (F := Ideal) (a0 W) (a2 W) (a3 W) := by
  after_reads_simp
  rfl

theorem stage0_mask : StableHlo.after hostOps0 W (Proc.devRef .tc main_v46) = val_main_v55 (F := Ideal) := by
  after_reads_simp
  rfl

theorem stage0_v : StableHlo.after hostOps0 W (Proc.devRef .tc main_v3) = val_main_v6 (F := Ideal) (a0 W) := by
  after_reads_simp
  rfl

set_option maxHeartbeats 1000000 in
theorem stage1_log1m (x0 : (⟨S4096x16384, .bf16⟩ : BufTy).Contents (Elt Ideal)) (x2 x3 : (⟨S1x128, .f32⟩ : BufTy).Contents (Elt Ideal))
    (h0 : W (Proc.devRef .tc main_v47) = val_main_v56 (F := Ideal) x0 x2 x3) :
    StableHlo.after hostOps0_1 W (Proc.devRef .tc main_v48) = val_main_v57_0 (F := Ideal) x0 x2 x3 := by
  after_reads_simp
  rw [h0]
  rfl

theorem stage2_zero : StableHlo.after hostOps0_2 W (Proc.devRef .tc main_cst_6) = constant (F := Ideal) S_ .f32 0x00000000#32 := by
  after_reads_simp

set_option maxHeartbeats 1000000 in
theorem stage3_masked (x0 : (⟨S4096x16384, .bf16⟩ : BufTy).Contents (Elt Ideal)) (x2 x3 : (⟨S1x128, .f32⟩ : BufTy).Contents (Elt Ideal))
    (h0 : W (Proc.devRef .tc main_v46) = val_main_v55 (F := Ideal)) (h1 : W (Proc.devRef .tc main_v48) = val_main_v57_0 (F := Ideal) x0 x2 x3) (h2 : W (Proc.devRef .tc main_cst_6) = constant (F := Ideal) S_ .f32 0x00000000#32) :
    StableHlo.after hostOps0_3 W (Proc.devRef .tc main_v49) = val_main_v58_0 (F := Ideal) x0 x2 x3 := by
  after_reads_simp
  rw [h0, h1, h2]
  rfl

set_option maxHeartbeats 1000000 in
theorem stage4_sums (x0 : (⟨S4096x16384, .bf16⟩ : BufTy).Contents (Elt Ideal)) (x2 x3 : (⟨S1x128, .f32⟩ : BufTy).Contents (Elt Ideal))
    (h0 : W (Proc.devRef .tc main_v49) = val_main_v58_0 (F := Ideal) x0 x2 x3) :
    StableHlo.after hostOps0_4 W (Proc.devRef .tc main_v50) = val_main_v59 (F := Ideal) x0 x2 x3 := by
  after_reads_simp
  rw [h0]
  rfl

set_option maxHeartbeats 1000000 in
theorem stage5_suffix (x0 : (⟨S4096x16384, .bf16⟩ : BufTy).Contents (Elt Ideal)) (x2 x3 : (⟨S1x128, .f32⟩ : BufTy).Contents (Elt Ideal))
    (h0 : W (Proc.devRef .tc main_v50) = val_main_v59 (F := Ideal) x0 x2 x3) (h1 : W (Proc.devRef .tc main_v49) = val_main_v58_0 (F := Ideal) x0 x2 x3) :
    StableHlo.after hostOps0_5 W (Proc.devRef .tc main_v51) = val_main_v60 (F := Ideal) x0 x2 x3 := by
  after_reads_simp
  rw [h0, h1]
  rfl

set_option maxHeartbeats 1000000 in
theorem stage6_log (x0 : (⟨S4096x16384, .bf16⟩ : BufTy).Contents (Elt Ideal)) (x2 x3 : (⟨S1x128, .f32⟩ : BufTy).Contents (Elt Ideal))
    (h0 : W (Proc.devRef .tc main_v39) = val_main_v48 (F := Ideal) x0 x2 x3) :
    StableHlo.after hostOps0_6 W (Proc.devRef .tc main_v52) = val_main_v61_0 (F := Ideal) x0 x2 x3 := by
  after_reads_simp
  rw [h0]
  rfl

set_option maxHeartbeats 1000000 in
theorem stage7_exp (x0 : (⟨S4096x16384, .bf16⟩ : BufTy).Contents (Elt Ideal)) (x2 x3 : (⟨S1x128, .f32⟩ : BufTy).Contents (Elt Ideal))
    (h0 : W (Proc.devRef .tc main_v52) = val_main_v61_0 (F := Ideal) x0 x2 x3) (h1 : W (Proc.devRef .tc main_v51) = val_main_v60 (F := Ideal) x0 x2 x3) :
    StableHlo.after hostOps0_7 W (Proc.devRef .tc main_v54) = val_main_v63 (F := Ideal) x0 x2 x3 := by
  after_reads_simp
  rw [h0, h1]
  rfl

theorem stage7_zero : StableHlo.after hostOps0_7 W (Proc.devRef .tc main_cst_7) = constant (F := Ideal) S_ .f32 0x00000000#32 := by
  after_reads_simp

set_option maxHeartbeats 1000000 in
theorem stage8_w (x0 : (⟨S4096x16384, .bf16⟩ : BufTy).Contents (Elt Ideal)) (x2 x3 : (⟨S1x128, .f32⟩ : BufTy).Contents (Elt Ideal))
    (h0 : W (Proc.devRef .tc main_v46) = val_main_v55 (F := Ideal)) (h1 : W (Proc.devRef .tc main_v54) = val_main_v63 (F := Ideal) x0 x2 x3) (h2 : W (Proc.devRef .tc main_cst_7) = constant (F := Ideal) S_ .f32 0x00000000#32) :
    StableHlo.after hostOps0_8 W (Proc.devRef .tc main_v55) = val_main_v64_0 (F := Ideal) x0 x2 x3 := by
  after_reads_simp
  rw [h0, h1, h2]
  rfl

set_option maxHeartbeats 1000000 in
theorem stage9_o (x0 : (⟨S4096x16384, .bf16⟩ : BufTy).Contents (Elt Ideal)) (x2 x3 : (⟨S1x128, .f32⟩ : BufTy).Contents (Elt Ideal))
    (h0 : W (Proc.devRef .tc main_v55) = val_main_v64_0 (F := Ideal) x0 x2 x3) (h1 : W (Proc.devRef .tc main_v3) = val_main_v6 (F := Ideal) x0) :
    StableHlo.after hostOps0_9 W (Proc.devRef .tc main_v61) = truncf (F := Ideal) .bf16 (val_main_v69 (F := Ideal) x0 x2 x3) bitsLt_bf16_f32 := by
  after_reads_simp
  rw [h0, h1]
  rfl

set_option maxHeartbeats 1000000 in
theorem stage9_wt (x0 : (⟨S4096x16384, .bf16⟩ : BufTy).Contents (Elt Ideal)) (x2 x3 : (⟨S1x128, .f32⟩ : BufTy).Contents (Elt Ideal))
    (h0 : W (Proc.devRef .tc main_v55) = val_main_v64_0 (F := Ideal) x0 x2 x3) :
    StableHlo.after hostOps0_9 W (Proc.devRef .tc main_v64) = (truncf (F := Ideal) .bf16 (transpose S2x32x8x8x256x256 [0, 1, 2, 4, 3, 5] (shapeCast _ (val_main_v64_0 (F := Ideal) x0 x2 x3) shapeCasts_S2x32x2048x2048_S2x32x8x256x8x256) transposes_S2x32x8x256x8x256_S2x32x8x8x256x256_0_1_2_4_3_5) bitsLt_bf16_f32) := by
  after_reads_simp
  rw [h0]
  rfl

theorem keep1_v46 : StableHlo.after hostOps0_1 W (Proc.devRef .tc main_v46) = W (Proc.devRef .tc main_v46) := by
  after_reads_simp

theorem keep1_v3 : StableHlo.after hostOps0_1 W (Proc.devRef .tc main_v3) = W (Proc.devRef .tc main_v3) := by
  after_reads_simp

theorem keep1_v39 : StableHlo.after hostOps0_1 W (Proc.devRef .tc main_v39) = W (Proc.devRef .tc main_v39) := by
  after_reads_simp

theorem keep2_v46 : StableHlo.after hostOps0_2 W (Proc.devRef .tc main_v46) = W (Proc.devRef .tc main_v46) := by
  after_reads_simp

theorem keep2_v3 : StableHlo.after hostOps0_2 W (Proc.devRef .tc main_v3) = W (Proc.devRef .tc main_v3) := by
  after_reads_simp

theorem keep2_v39 : StableHlo.after hostOps0_2 W (Proc.devRef .tc main_v39) = W (Proc.devRef .tc main_v39) := by
  after_reads_simp

theorem keep2_v48 : StableHlo.after hostOps0_2 W (Proc.devRef .tc main_v48) = W (Proc.devRef .tc main_v48) := by
  after_reads_simp

theorem keep3_v46 : StableHlo.after hostOps0_3 W (Proc.devRef .tc main_v46) = W (Proc.devRef .tc main_v46) := by
  after_reads_simp

theorem keep3_v3 : StableHlo.after hostOps0_3 W (Proc.devRef .tc main_v3) = W (Proc.devRef .tc main_v3) := by
  after_reads_simp

theorem keep3_v39 : StableHlo.after hostOps0_3 W (Proc.devRef .tc main_v39) = W (Proc.devRef .tc main_v39) := by
  after_reads_simp

theorem keep4_v46 : StableHlo.after hostOps0_4 W (Proc.devRef .tc main_v46) = W (Proc.devRef .tc main_v46) := by
  after_reads_simp

theorem keep4_v3 : StableHlo.after hostOps0_4 W (Proc.devRef .tc main_v3) = W (Proc.devRef .tc main_v3) := by
  after_reads_simp

theorem keep4_v39 : StableHlo.after hostOps0_4 W (Proc.devRef .tc main_v39) = W (Proc.devRef .tc main_v39) := by
  after_reads_simp

theorem keep4_v49 : StableHlo.after hostOps0_4 W (Proc.devRef .tc main_v49) = W (Proc.devRef .tc main_v49) := by
  after_reads_simp

theorem keep5_v46 : StableHlo.after hostOps0_5 W (Proc.devRef .tc main_v46) = W (Proc.devRef .tc main_v46) := by
  after_reads_simp

theorem keep5_v3 : StableHlo.after hostOps0_5 W (Proc.devRef .tc main_v3) = W (Proc.devRef .tc main_v3) := by
  after_reads_simp

theorem keep5_v39 : StableHlo.after hostOps0_5 W (Proc.devRef .tc main_v39) = W (Proc.devRef .tc main_v39) := by
  after_reads_simp

theorem keep6_v46 : StableHlo.after hostOps0_6 W (Proc.devRef .tc main_v46) = W (Proc.devRef .tc main_v46) := by
  after_reads_simp

theorem keep6_v3 : StableHlo.after hostOps0_6 W (Proc.devRef .tc main_v3) = W (Proc.devRef .tc main_v3) := by
  after_reads_simp

theorem keep6_v51 : StableHlo.after hostOps0_6 W (Proc.devRef .tc main_v51) = W (Proc.devRef .tc main_v51) := by
  after_reads_simp

theorem keep7_v46 : StableHlo.after hostOps0_7 W (Proc.devRef .tc main_v46) = W (Proc.devRef .tc main_v46) := by
  after_reads_simp

theorem keep7_v3 : StableHlo.after hostOps0_7 W (Proc.devRef .tc main_v3) = W (Proc.devRef .tc main_v3) := by
  after_reads_simp

theorem keep8_v3 : StableHlo.after hostOps0_8 W (Proc.devRef .tc main_v3) = W (Proc.devRef .tc main_v3) := by
  after_reads_simp

end Stages

variable (m : (ℓ : Loc nD τ sig) → Buf (Elt Ideal) ℓ) (c : Dev nD)

/-- The launch memory on device `c`. -/
abbrev start : Valuation τ sig (Elt Ideal) := fun b => m (c, b)
def val0 : Valuation τ sig (Elt Ideal) := StableHlo.after hostOps0 (start m c)
def val1 : Valuation τ sig (Elt Ideal) := StableHlo.after hostOps0_1 (val0 m c)
def val2 : Valuation τ sig (Elt Ideal) := StableHlo.after hostOps0_2 (val1 m c)
def val3 : Valuation τ sig (Elt Ideal) := StableHlo.after hostOps0_3 (val2 m c)
def val4 : Valuation τ sig (Elt Ideal) := StableHlo.after hostOps0_4 (val3 m c)
def val5 : Valuation τ sig (Elt Ideal) := StableHlo.after hostOps0_5 (val4 m c)
def val6 : Valuation τ sig (Elt Ideal) := StableHlo.after hostOps0_6 (val5 m c)
def val7 : Valuation τ sig (Elt Ideal) := StableHlo.after hostOps0_7 (val6 m c)
def val8 : Valuation τ sig (Elt Ideal) := StableHlo.after hostOps0_8 (val7 m c)

/-- The buffers at the call's entry, by the last stretch of host operations. -/
theorem V_eq (b : Ref sig .tc) : V m c b = StableHlo.after hostOps0_9 (val8 m c) (Proc.devRef .tc b) := by
  unfold val8 val7 val6 val5 val4 val3 val2 val1 val0
  simp only [V, List.flatten_cons, List.flatten_nil, List.append_nil, after_app]

/-- The arguments on device `c`. -/
abbrev X0 : (⟨S4096x16384, .bf16⟩ : BufTy).Contents (Elt Ideal) := start m c (Proc.devRef .tc main_arg0)
abbrev X2 : (⟨S1x128, .f32⟩ : BufTy).Contents (Elt Ideal) := start m c (Proc.devRef .tc main_arg2)
abbrev X3 : (⟨S1x128, .f32⟩ : BufTy).Contents (Elt Ideal) := start m c (Proc.devRef .tc main_arg3)

theorem val0_v39 : val0 m c (Proc.devRef .tc main_v39) = val_main_v48 (F := Ideal) (X0 m c) (X2 m c) (X3 m c) :=
  stage0_z _
theorem val0_v47 : val0 m c (Proc.devRef .tc main_v47) = val_main_v56 (F := Ideal) (X0 m c) (X2 m c) (X3 m c) :=
  stage0_nz _
theorem val0_v46 : val0 m c (Proc.devRef .tc main_v46) = val_main_v55 (F := Ideal) :=
  stage0_mask _
theorem val0_v3 : val0 m c (Proc.devRef .tc main_v3) = val_main_v6 (F := Ideal) (X0 m c) :=
  stage0_v _
theorem val1_v46 : val1 m c (Proc.devRef .tc main_v46) = val_main_v55 (F := Ideal) :=
  (keep1_v46 _).trans (val0_v46 m c)
theorem val1_v3 : val1 m c (Proc.devRef .tc main_v3) = val_main_v6 (F := Ideal) (X0 m c) :=
  (keep1_v3 _).trans (val0_v3 m c)
theorem val1_v39 : val1 m c (Proc.devRef .tc main_v39) = val_main_v48 (F := Ideal) (X0 m c) (X2 m c) (X3 m c) :=
  (keep1_v39 _).trans (val0_v39 m c)
theorem val1_v48 : val1 m c (Proc.devRef .tc main_v48) = val_main_v57_0 (F := Ideal) (X0 m c) (X2 m c) (X3 m c) :=
  stage1_log1m _ (X0 m c) (X2 m c) (X3 m c) (val0_v47 m c)
theorem val2_v46 : val2 m c (Proc.devRef .tc main_v46) = val_main_v55 (F := Ideal) :=
  (keep2_v46 _).trans (val1_v46 m c)
theorem val2_v3 : val2 m c (Proc.devRef .tc main_v3) = val_main_v6 (F := Ideal) (X0 m c) :=
  (keep2_v3 _).trans (val1_v3 m c)
theorem val2_v39 : val2 m c (Proc.devRef .tc main_v39) = val_main_v48 (F := Ideal) (X0 m c) (X2 m c) (X3 m c) :=
  (keep2_v39 _).trans (val1_v39 m c)
theorem val2_v48 : val2 m c (Proc.devRef .tc main_v48) = val_main_v57_0 (F := Ideal) (X0 m c) (X2 m c) (X3 m c) :=
  (keep2_v48 _).trans (val1_v48 m c)
theorem val2_cst_6 : val2 m c (Proc.devRef .tc main_cst_6) = constant (F := Ideal) S_ .f32 0x00000000#32 := stage2_zero _
theorem val3_v46 : val3 m c (Proc.devRef .tc main_v46) = val_main_v55 (F := Ideal) :=
  (keep3_v46 _).trans (val2_v46 m c)
theorem val3_v3 : val3 m c (Proc.devRef .tc main_v3) = val_main_v6 (F := Ideal) (X0 m c) :=
  (keep3_v3 _).trans (val2_v3 m c)
theorem val3_v39 : val3 m c (Proc.devRef .tc main_v39) = val_main_v48 (F := Ideal) (X0 m c) (X2 m c) (X3 m c) :=
  (keep3_v39 _).trans (val2_v39 m c)
theorem val3_v49 : val3 m c (Proc.devRef .tc main_v49) = val_main_v58_0 (F := Ideal) (X0 m c) (X2 m c) (X3 m c) :=
  stage3_masked _ (X0 m c) (X2 m c) (X3 m c) (val2_v46 m c) (val2_v48 m c) (val2_cst_6 m c)
theorem val4_v46 : val4 m c (Proc.devRef .tc main_v46) = val_main_v55 (F := Ideal) :=
  (keep4_v46 _).trans (val3_v46 m c)
theorem val4_v3 : val4 m c (Proc.devRef .tc main_v3) = val_main_v6 (F := Ideal) (X0 m c) :=
  (keep4_v3 _).trans (val3_v3 m c)
theorem val4_v39 : val4 m c (Proc.devRef .tc main_v39) = val_main_v48 (F := Ideal) (X0 m c) (X2 m c) (X3 m c) :=
  (keep4_v39 _).trans (val3_v39 m c)
theorem val4_v49 : val4 m c (Proc.devRef .tc main_v49) = val_main_v58_0 (F := Ideal) (X0 m c) (X2 m c) (X3 m c) :=
  (keep4_v49 _).trans (val3_v49 m c)
theorem val4_v50 : val4 m c (Proc.devRef .tc main_v50) = val_main_v59 (F := Ideal) (X0 m c) (X2 m c) (X3 m c) :=
  stage4_sums _ (X0 m c) (X2 m c) (X3 m c) (val3_v49 m c)
theorem val5_v46 : val5 m c (Proc.devRef .tc main_v46) = val_main_v55 (F := Ideal) :=
  (keep5_v46 _).trans (val4_v46 m c)
theorem val5_v3 : val5 m c (Proc.devRef .tc main_v3) = val_main_v6 (F := Ideal) (X0 m c) :=
  (keep5_v3 _).trans (val4_v3 m c)
theorem val5_v39 : val5 m c (Proc.devRef .tc main_v39) = val_main_v48 (F := Ideal) (X0 m c) (X2 m c) (X3 m c) :=
  (keep5_v39 _).trans (val4_v39 m c)
theorem val5_v51 : val5 m c (Proc.devRef .tc main_v51) = val_main_v60 (F := Ideal) (X0 m c) (X2 m c) (X3 m c) :=
  stage5_suffix _ (X0 m c) (X2 m c) (X3 m c) (val4_v50 m c) (val4_v49 m c)
theorem val6_v46 : val6 m c (Proc.devRef .tc main_v46) = val_main_v55 (F := Ideal) :=
  (keep6_v46 _).trans (val5_v46 m c)
theorem val6_v3 : val6 m c (Proc.devRef .tc main_v3) = val_main_v6 (F := Ideal) (X0 m c) :=
  (keep6_v3 _).trans (val5_v3 m c)
theorem val6_v51 : val6 m c (Proc.devRef .tc main_v51) = val_main_v60 (F := Ideal) (X0 m c) (X2 m c) (X3 m c) :=
  (keep6_v51 _).trans (val5_v51 m c)
theorem val6_v52 : val6 m c (Proc.devRef .tc main_v52) = val_main_v61_0 (F := Ideal) (X0 m c) (X2 m c) (X3 m c) :=
  stage6_log _ (X0 m c) (X2 m c) (X3 m c) (val5_v39 m c)
theorem val7_v46 : val7 m c (Proc.devRef .tc main_v46) = val_main_v55 (F := Ideal) :=
  (keep7_v46 _).trans (val6_v46 m c)
theorem val7_v3 : val7 m c (Proc.devRef .tc main_v3) = val_main_v6 (F := Ideal) (X0 m c) :=
  (keep7_v3 _).trans (val6_v3 m c)
theorem val7_v54 : val7 m c (Proc.devRef .tc main_v54) = val_main_v63 (F := Ideal) (X0 m c) (X2 m c) (X3 m c) :=
  stage7_exp _ (X0 m c) (X2 m c) (X3 m c) (val6_v52 m c) (val6_v51 m c)
theorem val7_cst_7 : val7 m c (Proc.devRef .tc main_cst_7) = constant (F := Ideal) S_ .f32 0x00000000#32 := stage7_zero _
theorem val8_v3 : val8 m c (Proc.devRef .tc main_v3) = val_main_v6 (F := Ideal) (X0 m c) :=
  (keep8_v3 _).trans (val7_v3 m c)
theorem val8_v55 : val8 m c (Proc.devRef .tc main_v55) = val_main_v64_0 (F := Ideal) (X0 m c) (X2 m c) (X3 m c) :=
  stage8_w _ (X0 m c) (X2 m c) (X3 m c) (val7_v46 m c) (val7_v54 m c) (val7_cst_7 m c)

/-- The weights' tiles at the call's entry: the reference's weights, cut into tiles. -/
theorem V_w : V m c main_v64 = truncf (F := Ideal) .bf16 (transpose S2x32x8x8x256x256 [0, 1, 2, 4, 3, 5] (shapeCast _ (val_main_v64_0 (F := Ideal) (X0 m c) (X2 m c) (X3 m c)) shapeCasts_S2x32x2048x2048_S2x32x8x256x8x256) transposes_S2x32x8x256x8x256_S2x32x8x8x256x256_0_1_2_4_3_5) bitsLt_bf16_f32 :=
  (V_eq m c _).trans (stage9_wt _ (X0 m c) (X2 m c) (X3 m c) (val8_v55 m c))

/-- The attention's output at the call's entry: the reference's. -/
theorem V_o : V m c main_v61 = truncf (F := Ideal) .bf16 (val_main_v69 (F := Ideal) (X0 m c) (X2 m c) (X3 m c)) bitsLt_bf16_f32 :=
  (V_eq m c _).trans (stage9_o _ (X0 m c) (X2 m c) (X3 m c) (val8_v55 m c) (val8_v3 m c))

end Cert.KernelIdeal.Attn

end
-- ==== Proof.KernelIdealAttnDv.lean ====
/- The gradient of the values: the sum over the kernel's query blocks is the reference's sum over all queries. -/
module

public import proofs.«01_k».proof.Proof.KernelIdealAttnStep
public import proofs.«01_k».proof.Proof.KernelIdealAttnHost
public import Idealize.ShloMosaic.Lib.ValueIdxRank6

@[expose] public section

set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

/-- The incoming gradient's argument. -/
abbrev X1 (c : Dev nD) : (⟨S4096x4096, .bf16⟩ : BufTy).Contents (Elt Ideal) := start m c (Proc.devRef .tc main_arg1)

/-- The host's arrangement of the weights in tiles. -/
theorem tiles_at (A : S2x32x2048x2048.Idx → Elt Ideal .f32) (b : Fin 2) (h : Fin 32) (q k : Fin 8) (x r : Fin 256) :
    transpose S2x32x8x8x256x256 [0, 1, 2, 4, 3, 5] (shapeCast _ A shapeCasts_S2x32x2048x2048_S2x32x8x256x8x256) transposes_S2x32x8x256x8x256_S2x32x8x8x256x256_0_1_2_4_3_5
      (ix6 b h q k x r) = A (ix4 b h (⟨q.val * 256 + x.val, by omega⟩ : Fin 2048) (⟨k.val * 256 + r.val, by omega⟩ : Fin 2048)) := by
  refine (transpose_apply [0, 1, 2, 4, 3, 5] _ _ (ix6 b h q k x r) (ix6 b h q x k r) (fun a => match a with
    | ⟨0, _⟩ => rfl
    | ⟨1, _⟩ => rfl
    | ⟨2, _⟩ => rfl
    | ⟨3, _⟩ => rfl
    | ⟨4, _⟩ => rfl
    | ⟨5, _⟩ => rfl)).trans ?_
  refine shapeCast_apply A _ (ix6 b h q x k r) (ix4 b h _ _) ?_
  rewrite [Shape.rowMajor_val_four, Idealize.ShloMosaic.Shape.rowMajor_val_six]
  show ((b.val * 32 + h.val) * 2048 + (q.val * 256 + x.val)) * 2048 + (k.val * 256 + r.val) = ((((b.val * 32 + h.val) * 8 + q.val) * 256 + x.val) * 8 + k.val) * 256 + r.val
  omega

theorem w_at (c : Dev nD) (b : Fin 2) (h : Fin 32) (q k : Fin 8) (x r : Fin 256) :
    V m c main_v64 (ix6 b h q k x r)
      = val_main_v64_0 (F := Ideal) (X0 m c) (X2 m c) (X3 m c) (ix4 b h (⟨q.val * 256 + x.val, by omega⟩ : Fin 2048) (⟨k.val * 256 + r.val, by omega⟩ : Fin 2048)) :=
  (congrFun (V_w m c) _).trans (tiles_at (val_main_v64_0 (F := Ideal) (X0 m c) (X2 m c) (X3 m c)) b h q k x r)

theorem toInt_small (n : ℕ) (h : n < 2048) : (BitVec.ofNat 32 n).toInt = (n : ℤ) := by
  rw [BitVec.toInt_eq_toNat_cond, BitVec.toNat_ofNat, Nat.mod_eq_of_lt (by omega), if_pos (by omega)]

/-- A key that does not come before its query has no weight. -/
theorem w_upper (x0 : (⟨S4096x16384, .bf16⟩ : BufTy).Contents (Elt Ideal)) (x2 x3 : (⟨S1x128, .f32⟩ : BufTy).Contents (Elt Ideal))
    (i : S2x32x2048x2048.Idx) (h : (i 2).val ≤ (i 3).val) : val_main_v64_0 (F := Ideal) x0 x2 x3 i = (0 : EReal) := by
  have h2 : (i 2).val < 2048 := (i 2).isLt
  have h3 : (i 3).val < 2048 := (i 3).isLt
  have e : val_main_v64_1 (F := Ideal) i = 0#1 := by
    rw [val_main_v64_1_apply, val_main_v55_apply, val_main_v53_apply, val_main_v50_apply, val_main_v49_apply, val_main_v54_apply, val_main_v52_apply,
      val_main_v51_apply]
    show BitVec.ofBool (BitVec.slt (BitVec.ofNat 32 (i 3).val) (BitVec.ofNat 32 (i 2).val)) = 0#1
    have : BitVec.slt (BitVec.ofNat 32 (i 3).val) (BitVec.ofNat 32 (i 2).val) = false := by
      rw [BitVec.slt, decide_eq_false_iff_not, toInt_small _ h2, toInt_small _ h3]
      omega
    rw [this]
    rfl
  rw [val_main_v64_0_apply, e, val_main_call4_v2_apply]
  show FloatOps.ofBits (F := Ideal) .f32 0x00000000#32 = (0 : EReal)
  exact Ideal.ofBits_zero_f32

/-- A sum over the positions of a sequence, block by block. -/
theorem sum_blocks (f : Fin 2048 → EReal) : ∑ k, f k = ∑ q : Fin 8, ∑ x : Fin 256, f (⟨q.val * 256 + x.val, by omega⟩ : Fin 2048) := by
  rw [← (finProdFinEquiv : Fin 8 × Fin 256 ≃ Fin (8 * 256)).sum_comp (fun k => f k), Fintype.sum_prod_type]
  refine Finset.sum_congr rfl fun q _ => Finset.sum_congr rfl fun x _ => congrArg f (Fin.ext ?_)
  show x.val + 256 * q.val = q.val * 256 + x.val
  omega

/-- The reference's gradient of the values at a key. -/
theorem ref_dv (x0 : (⟨S4096x16384, .bf16⟩ : BufTy).Contents (Elt Ideal)) (x1 : (⟨S4096x4096, .bf16⟩ : BufTy).Contents (Elt Ideal))
    (x2 x3 : (⟨S1x128, .f32⟩ : BufTy).Contents (Elt Ideal)) (b : Fin 2) (k : Fin 2048) (h : Fin 32) (d : Fin 128) (R C : Fin 4096)
    (hR : R.val = b.val * 2048 + k.val) (hC : C.val = h.val * 128 + d.val) :
    val_main_v82 (F := Ideal) x0 x1 x2 x3 (ix2 R C)
      = ∑ q : Fin 2048, val_main_v64_0 (F := Ideal) x0 x2 x3 (ix4 b h q k) * val_main_v74 (F := Ideal) x0 x1 (ix2 (⟨b.val * 2048 + q.val, by omega⟩ : Fin 4096) C) := by
  rw [val_main_v82_apply, val_main_v81_apply, val_main_v79_apply, val_main_v78_apply]
  refine Finset.sum_congr rfl fun q _ => ?_
  rw [val_main_v77_apply, val_main_v76_apply, mul_comm]
  refine congrArg₂ (· * ·) (congrArg _ (funext fun a => Fin.ext ?_)) (congrArg _ (funext fun a => Fin.ext ?_))
  · match a with
    | ⟨0, _⟩ => show (R.val * 4096 + C.val) / 8388608 = b.val; omega
    | ⟨1, _⟩ => show (R.val * 4096 + C.val) / 128 % 32 = h.val; omega
    | ⟨2, _⟩ => rfl
    | ⟨3, _⟩ => show (R.val * 4096 + C.val) / 4096 % 2048 = k.val; omega
  · match a with
    | ⟨0, _⟩ =>
      show ((((R.val * 4096 + C.val) / 8388608 * 2048 + q.val) * 32 + (R.val * 4096 + C.val) / 128 % 32) * 128 + (R.val * 4096 + C.val) % 128) / 4096 = b.val * 2048 + q.val
      omega
    | ⟨1, _⟩ =>
      show ((((R.val * 4096 + C.val) / 8388608 * 2048 + q.val) * 32 + (R.val * 4096 + C.val) / 128 % 32) * 128 + (R.val * 4096 + C.val) % 128) % 4096 = C.val
      omega

/-- The kernel's incoming gradient is the reference's. -/
theorem gd_at (c : Dev nD) (p : ℕ) (y : S2048x256.Idx) :
    gd m c p y = val_main_v74 (F := Ideal) (X0 m c) (X1 m c) (ix2 (rowG p y) (colG p y)) := by
  unfold gd gate dog
  rw [V_main_arg0 m c, V_main_arg1 m c]
  pointwise [k0_pay15, k0_pay12, k0_pay13, k0_pay14, val_main_v74, val_main_v72, val_main_v70_0, val_main_v70_2, val_main_call5_v4, val_main_call5_cst_0, val_main_call5_v3,
    val_main_call5_v2, val_main_call5_cst, val_main_call5_v1, val_main_call5_v0, val_main_v7, val_main_v3]
  rw [zero_sub]

theorem wt_at (c : Dev nD) (p : ℕ) (q : Fin 8) (h : Fin 2) (k : Fin 8) (x r : Fin 256) :
    wt m c p q (ix6 0 h 0 k x r) = V m c main_v64 (ix6 (⟨p / 16 % 2, by omega⟩ : Fin 2) (⟨p % 16 * 2 + h.val, by omega⟩ : Fin 32) q k x r) := by
  unfold wt
  generalize V m c main_v64 = A
  rfl

/-- The kernel's sum is the reference's. -/
theorem dv_at (c : Dev nD) (p : ℕ) (y : S2048x256.Idx) :
    dvPart m c p 8 y = val_main_v82 (F := Ideal) (X0 m c) (X1 m c) (X2 m c) (X3 m c) (ix2 (rowG p y) (colG p y)) := by
  have h0 : (y 0).val < 2048 := (y 0).isLt
  have h1 : (y 1).val < 256 := (y 1).isLt
  rw [ref_dv (X0 m c) (X1 m c) (X2 m c) (X3 m c) (⟨p / 16 % 2, by omega⟩ : Fin 2) (⟨(y 0).val, h0⟩ : Fin 2048)
    (⟨p % 16 * 2 + (y 1).val / 128, by omega⟩ : Fin 32) (⟨(y 1).val % 128, by omega⟩ : Fin 128) (rowG p y) (colG p y) rfl
    (by show p % 16 * 256 + (y 1).val = (p % 16 * 2 + (y 1).val / 128) * 128 + (y 1).val % 128; omega), sum_blocks]
  unfold dvPart
  refine Finset.sum_congr rfl fun q _ => ?_
  by_cases hb : (y 0).val / 256 ≤ q.val
  · rw [if_pos ⟨q.isLt, hb⟩]
    unfold dvTerm
    refine Finset.sum_congr rfl fun x _ => ?_
    rw [gd_at]
    rw [wt_at, w_at]
    refine congrArg₂ (· * ·) ?_ ?_
    · exact congrArg (val_main_v64_0 (F := Ideal) (X0 m c) (X2 m c) (X3 m c)) (congrArg (ix4 _ _ _) (Fin.ext (by show (y 0).val / 256 * 256 + (y 0).val % 256 = (y 0).val; omega)))
    · exact congrArg (val_main_v74 (F := Ideal) (X0 m c) (X1 m c)) (congrArg₂ ix2 (Fin.ext (by show p / 16 % 2 * 2048 + (q.val * 256 + x.val) = p / 16 % 2 * 2048 + (q.val * 256 + x.val); rfl)) rfl)
  · rw [if_neg (fun h => hb h.2)]
    refine (Finset.sum_eq_zero fun x _ => ?_).symm
    rw [w_upper _ _ _ _ (by show q.val * 256 + x.val ≤ (y 0).val; omega)]
    exact zero_mul _

end Cert.KernelIdeal.Attn

end
-- ==== Proof.KernelIdealAttnReal.lean ====
/- The attention weights are real numbers whatever the arguments, so finite projections and a finite incoming gradient
   make the gradient of the gate an identity between real numbers. -/
module

public import proofs.«01_k».proof.Proof.KernelIdealAttnDv
public import Idealize.ShloMosaic.Lib.ReduceAll

@[expose] public section

set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read

/-- An extended real that is a real number. -/
def Re (x : EReal) : Prop := ∃ r : ℝ, x = (r : EReal)

theorem Re.mul {x y : EReal} (hx : Re x) (hy : Re y) : Re (x * y) := by
  obtain ⟨a, rfl⟩ := hx
  obtain ⟨b, rfl⟩ := hy
  exact ⟨a * b, by norm_cast⟩

theorem Re.sum {ι : Type} (s : Finset ι) (f : ι → EReal) (h : ∀ i, Re (f i)) : Re (∑ i ∈ s, f i) :=
  Finset.sum_induction f Re (fun x y hx hy => by
    obtain ⟨a, rfl⟩ := hx
    obtain ⟨b, rfl⟩ := hy
    exact ⟨a + b, by norm_cast⟩) ⟨0, by norm_cast⟩ fun i _ => h i

theorem Re.of_abs_lt {x : EReal} (h : max x (-x) < ⊤) : Re x := by
  induction x with
  | bot => simp at h
  | top => simp at h
  | coe r => exact ⟨r, rfl⟩

/-- The logarithm of one plus an exponential is not negative. -/
theorem log1p_exp_nonneg (y : EReal) : 0 ≤ Ideal.log1p (Ideal.exp y) := by
  unfold Ideal.log1p
  induction y with
  | bot =>
    show (0 : EReal) ≤ Ideal.log (1 + 0)
    rw [add_zero]
    show (0 : EReal) ≤ if (1 : ℝ) ≤ 0 then ⊥ else (Real.log 1 : EReal)
    rw [if_neg (by norm_num), Real.log_one]
    exact le_of_eq (by norm_cast)
  | top =>
    show (0 : EReal) ≤ Ideal.log (1 + ⊤)
    rw [show (1 : EReal) + ⊤ = ⊤ from rfl]
    exact le_top
  | coe r =>
    have h : 0 < Real.exp r := Real.exp_pos r
    show (0 : EReal) ≤ Ideal.log (((1 : ℝ) : EReal) + (Real.exp r : EReal))
    rw [← EReal.coe_add]
    show (0 : EReal) ≤ if 1 + Real.exp r ≤ 0 then ⊥ else (Real.log (1 + Real.exp r) : EReal)
    rw [if_neg (by linarith)]
    exact_mod_cast Real.log_nonneg (by linarith)

/-- The exponential of something not positive is real. -/
theorem exp_real {y : EReal} (h : y ≤ 0) : Re (Ideal.exp y) := by
  induction y with
  | bot => exact ⟨0, rfl⟩
  | top => exact absurd h (by simp)
  | coe r => exact ⟨Real.exp r, rfl⟩

/-- A sum of terms that are not positive is at most any one of them. -/
theorem foldl_le {ι : Type} (g : ι → EReal) (hg : ∀ n, g n ≤ 0) :
    ∀ (l : List ι) (v : EReal), v ≤ 0 → l.foldl (fun r n => r + g n) v ≤ v ∧ ∀ n ∈ l, l.foldl (fun r n => r + g n) v ≤ g n
  | [], v, hv => ⟨le_rfl, fun n h => nomatch h⟩
  | a :: l, v, hv => by
    have e1 : v + g a ≤ v := (add_le_add_right (hg a) v).trans (le_of_eq (add_zero v))
    have e2 : v + g a ≤ g a := (add_le_add_left hv (g a)).trans (le_of_eq (zero_add _))
    obtain ⟨h1, h2⟩ := foldl_le g hg l (v + g a) (e1.trans hv)
    exact ⟨h1.trans e1, fun n hn => by
      rcases List.mem_cons.1 hn with rfl | hn
      exacts [h1.trans e2, h2 n hn]⟩

theorem sub_nonpos' {x y : EReal} (h : x ≤ y) (hy : y ≤ 0) : x - y ≤ 0 := by
  induction y with
  | bot => rw [le_bot_iff.1 h]; simp
  | top => exact absurd hy (by simp)
  | coe r =>
    induction x with
    | bot => simp
    | top => exact absurd h (by simp)
    | coe a =>
      rw [← EReal.coe_sub]
      exact_mod_cast sub_nonpos.2 (EReal.coe_le_coe_iff.1 h)

/-- A windowed sum of terms that are not positive is at most any one element its window meets. -/
theorem window_le {s t u : Shape} (window strides lo hi : Fin s.rank → Nat) (x : FVec Ideal s .f32) (init : FVec Ideal u .f32)
    (h : s.ReduceWindows window strides lo hi t) (hu : 0 < u.numel) (j : t.Idx) (hx : ∀ i, x i ≤ (0 : EReal)) (hi0 : ∀ k, init k ≤ (0 : EReal))
    (q : s.Idx) (hw : ∀ a, 0 < window a) (hl : ∀ a, lo a = 0) (hs : ∀ a, strides a = 1) (hq : ∀ a, (q a).val = (j (a.cast h.1.symm)).val) :
    (Host.reduceWindowAdd window strides lo hi x init h hu j : EReal) ≤ x q := by
  show Host.reduceWindow (fun a b : EReal => a + b) window strides lo hi x (fun _ : (⟨0, ![]⟩ : Shape).Idx => init (Shape.Idx.first hu)) h (by decide) j ≤ x q
  have ho : ∀ a, lo a ≤ (j (a.cast h.1.symm)).val * strides a + 0 ∧ (j (a.cast h.1.symm)).val * strides a + 0 - lo a = (q a).val := fun a => by
    rw [hl a, hs a, hq a]
    omega
  unfold Host.reduceWindow
  refine ((foldl_le _ (fun n => ?_) (List.finRange _) (init (Shape.Idx.first hu)) (hi0 _)).2
    ((⟨s.rank, window⟩ : Shape).rowMajor (fun a => ⟨0, hw a⟩)) (List.mem_finRange _)).trans (le_of_eq ?_)
  · split
    · exact hx _
    · exact hi0 _
  · simp only [Equiv.symm_apply_apply]
    rw [dif_pos (fun a => ⟨(ho a).1, by rw [(ho a).2]; exact (q a).isLt⟩)]
    exact congrArg x (funext fun a => Fin.ext (ho a).2)

section Weights

variable (x0 : (⟨S4096x16384, .bf16⟩ : BufTy).Contents (Elt Ideal)) (x2 x3 : (⟨S1x128, .f32⟩ : BufTy).Contents (Elt Ideal))
  (i : S2x32x2048x2048.Idx)

theorem zero_word : Ideal.ofBits .f32 0x00000000#32 = 0 := by simp [Ideal.ofBits, Ideal.ieee]

theorem softplus0 : 0 ≤ val_main_call0_v1_0 (F := Ideal) x0 x2 x3 i := by
  rw [val_main_call0_v1_0_apply, val_main_call0_call0_v4_apply]
  show 0 ≤ Scalar.select (BitVec.ofBool (decide (_ ≠ _))) _ _
  rw [decide_eq_false (by simp)]
  show (0 : EReal) ≤ max _ _ + Ideal.log1p (Ideal.exp _)
  refine add_nonneg (le_max_of_le_right (le_of_eq ?_)) (log1p_exp_nonneg _)
  rw [val_main_call0_call0_v0_apply, val_main_call0_call0_cst_apply]
  exact zero_word.symm

theorem softplus3 : 0 ≤ val_main_call3_v1_0 (F := Ideal) x0 x2 x3 i := by
  rw [val_main_call3_v1_0_apply, val_main_call3_call0_v4_apply]
  show 0 ≤ Scalar.select (BitVec.ofBool (decide (_ ≠ _))) _ _
  rw [decide_eq_false (by simp)]
  show (0 : EReal) ≤ max _ _ + Ideal.log1p (Ideal.exp _)
  refine add_nonneg (le_max_of_le_right (le_of_eq ?_)) (log1p_exp_nonneg _)
  rw [val_main_call3_call0_v0_apply, val_main_call3_call0_cst_apply]
  exact zero_word.symm

theorem v57_nonpos : val_main_v57_0 (F := Ideal) x0 x2 x3 i ≤ (0 : EReal) := by
  rw [val_main_v57_0_apply]
  show -(val_main_call0_v1_0 (F := Ideal) x0 x2 x3 i : EReal) ≤ 0
  exact EReal.neg_le_of_neg_le (by rw [neg_zero]; exact softplus0 x0 x2 x3 i)

theorem v61_nonpos : val_main_v61_0 (F := Ideal) x0 x2 x3 i ≤ (0 : EReal) := by
  rw [val_main_v61_0_apply]
  show -(val_main_call3_v1_0 (F := Ideal) x0 x2 x3 i : EReal) ≤ 0
  exact EReal.neg_le_of_neg_le (by rw [neg_zero]; exact softplus3 x0 x2 x3 i)

theorem v58_nonpos : val_main_v58_0 (F := Ideal) x0 x2 x3 i ≤ (0 : EReal) := by
  rw [val_main_v58_0_apply]
  unfold Scalar.select
  split
  · exact v57_nonpos x0 x2 x3 i
  · rw [val_main_call1_v2_apply, val_main_call1_v0_apply]
    exact le_of_eq zero_word

/-- The sum over the keys from this one on is at most this key's own term. -/
theorem tail_le (A : FVec Ideal S2x32x2048x2048 .f32) (v : FVec Ideal S_ .f32)
    (h : S2x32x2048x2048.ReduceWindows ![1, 1, 1, 2048] ![1, 1, 1, 1] ![0, 0, 0, 0] ![0, 0, 0, 2047] S2x32x2048x2048)
    (hn : ∀ i, A i ≤ (0 : EReal)) (h0 : ∀ k, v k ≤ (0 : EReal)) :
    LE.le (α := EReal) (Host.reduceWindowAdd (t := S2x32x2048x2048) ![1, 1, 1, 2048] ![1, 1, 1, 1] ![0, 0, 0, 0] ![0, 0, 0, 2047] A v h h_S_ i) (A i) := by
  have := window_le ![1, 1, 1, 2048] ![1, 1, 1, 1] ![0, 0, 0, 0] ![0, 0, 0, 2047] A v h h_S_ i hn h0 i (by decide) (by decide) (by decide) (fun a => rfl)
  exact this

theorem v59_le : LE.le (α := EReal) (val_main_v59 (F := Ideal) x0 x2 x3 i) (val_main_v58_0 (F := Ideal) x0 x2 x3 i) := by
  unfold val_main_v59
  exact tail_le i _ _ _ (v58_nonpos x0 x2 x3) fun k => by
    rw [val_main_call2_v0_apply, val_main_call2_cst_apply]
    exact le_of_eq zero_word

theorem v62_nonpos : val_main_v62 (F := Ideal) x0 x2 x3 i ≤ (0 : EReal) := by
  rw [val_main_v62_apply, val_main_v60_apply]
  exact (add_le_add (v61_nonpos x0 x2 x3 i) (sub_nonpos' (v59_le x0 x2 x3 i) (v58_nonpos x0 x2 x3 i))).trans (le_of_eq (add_zero 0))

/-- An attention weight is a real number. -/
theorem w_real : Re (val_main_v64_0 (F := Ideal) x0 x2 x3 i) := by
  rw [val_main_v64_0_apply]
  unfold Scalar.select
  split
  · rw [val_main_v63_apply]
    exact exp_real (v62_nonpos x0 x2 x3 i)
  · rw [val_main_call4_v2_apply]
    exact ⟨0, zero_word⟩

/-- The attention's output is real where the projections are. -/
theorem o_real (h : ∀ j, Re (x0 j)) (j : S4096x4096.Idx) : Re (val_main_v69 (F := Ideal) x0 x2 x3 j) := by
  rw [val_main_v69_apply, val_main_v68_apply, val_main_v67_apply]
  refine Re.sum _ _ fun k => (w_real x0 x2 x3 _).mul ?_
  rw [val_main_v66_apply, val_main_v65_apply, val_main_v6_apply, val_main_v2_apply]
  exact h _

end Weights

end Cert.KernelIdeal.Attn

end
-- ==== Proof.KernelIdealAttnDgate.lean ====
/- The gradient of the gate: the kernel's product and the reference's sum are the same real number. -/
module

public import proofs.«01_k».proof.Proof.KernelIdealAttnReal
public import proofs.«01_k».proof.Pre_finite

@[expose] public section

set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read

/-- The derivative of the gate's activation, expanded and factored. -/
theorem gate_identity {d o g : EReal} (hd : Re d) (ho : Re o) (hg : Re g) :
    d * o * (Ideal.div 1 (1 + Ideal.exp (-g)) * (1 + g * (1 - Ideal.div 1 (1 + Ideal.exp (-g)))))
      = o * d * Ideal.div 1 (1 + Ideal.exp (-g)) + g * (o * d) * (Ideal.div 1 (1 + Ideal.exp (-g)) * (1 - Ideal.div 1 (1 + Ideal.exp (-g)))) := by
  obtain ⟨d, rfl⟩ := hd
  obtain ⟨o, rfl⟩ := ho
  obtain ⟨g, rfl⟩ := hg
  have hs : Re (Ideal.div 1 (1 + Ideal.exp (-(g : EReal)))) := by
    have h : 0 < Real.exp (-g) := Real.exp_pos _
    rw [show Ideal.exp (-(g : EReal)) = (Real.exp (-g) : EReal) from rfl]
    rw [show (1 : EReal) + (Real.exp (-g) : EReal) = ((1 + Real.exp (-g) : ℝ) : EReal) by norm_cast]
    unfold Ideal.div
    rw [if_neg (by norm_cast; linarith)]
    exact ⟨(1 + Real.exp (-g))⁻¹, by rw [one_mul, EReal.coe_inv]⟩
  obtain ⟨s, hs⟩ := hs
  rw [hs]
  norm_cast
  ring

variable (m : (ℓ : Loc nD τ sig) → Buf (Elt Ideal) ℓ)

/-- The block of the gate's gradient is the reference's, where the projections and the incoming gradient are finite. -/
theorem dg_at (c : Dev nD) (h0 : ∀ j, Re (X0 m c j)) (h1 : ∀ j, Re (X1 m c j)) (p : ℕ) (y : S2048x256.Idx) :
    dg m c p y = val_main_v75 (F := Ideal) (X0 m c) (X1 m c) (X2 m c) (X3 m c) (ix2 (rowG p y) (colG p y)) := by
  unfold dg gate dog oo
  rw [V_main_arg0 m c, V_main_arg1 m c, V_o m c]
  have ho := o_real (X0 m c) (X2 m c) (X3 m c) h0 (ix2 (rowG p y) (colG p y))
  have hd : Re (X1 m c (ix2 (rowG p y) (colG p y))) := h1 _
  have hg : ∀ j, Re (X0 m c j) := h0
  revert ho hd hg
  unfold val_main_v75 val_main_call6_v1 val_main_call6_v2 val_main_call6_v0 val_main_v73
  generalize val_main_v69 (F := Ideal) (X0 m c) (X2 m c) (X3 m c) = O
  intro ho hd hg
  have key := gate_identity hd ho (hg (ix2 (rowG p y) (⟨12288 + (p % 16 * 256 + (y 1).val), by have : (y 1).val < 256 := (y 1).isLt; omega⟩ : Fin 16384)))
  pointwise [k0_pay16, k0_pay12, k0_pay13, k0_pay14, val_main_v72, val_main_v70_1, val_main_v70_2, val_main_call5_v7, val_main_call5_v6, val_main_call5_cst_1,
    val_main_call5_v4, val_main_call5_cst_0, val_main_call5_v3, val_main_call5_v2, val_main_call5_cst, val_main_call5_v1, val_main_call5_v0, val_main_v7, val_main_v3]
  rw [zero_sub]
  exact key

/-- What the precondition says of the elements. -/
theorem finite_real [Cert.Pre_finite.Facts] (x0 : (⟨S4096x16384, .bf16⟩ : BufTy).Contents (Elt Ideal)) (x1 : (⟨S4096x4096, .bf16⟩ : BufTy).Contents (Elt Ideal))
    (x2 x3 : (⟨S1x128, .f32⟩ : BufTy).Contents (Elt Ideal)) (h : Cert.Pre_finite.fn (F := Ideal) x0 x1 x2 x3 = fun _ => 1#1) :
    (∀ j, Re (x0 j)) ∧ ∀ j, Re (x1 j) := by
  have e : Cert.Pre_finite.fn (F := Ideal) x0 x1 x2 x3 (fun a => a.elim0) = 1#1 := congrFun h _
  unfold Cert.Pre_finite.fn at e
  obtain ⟨e0, e1⟩ := IntOp.andi_eq_one.1 e
  haveI : Subsingleton (Cert.Pre_finite.S_).Idx := ⟨fun a b => funext fun i => i.elim0⟩
  have htop : Ideal.ofBits .f32 0x7F800000#32 = ⊤ := by simp [Ideal.ofBits, Ideal.ieee]
  have lt (x : EReal) (hx : BitVec.ofBool (decide (max x (-x) < Ideal.ofBits .f32 0x7F800000#32)) = 1#1) : Re x := by
    rw [htop] at hx
    refine Re.of_abs_lt ?_
    by_contra hn
    rw [decide_eq_false hn] at hx
    exact absurd hx (by decide)
  exact ⟨fun j => lt _ (Host.reduce_andi_all _ _ _ _ _ e0 j), fun j => lt _ (Host.reduce_andi_all _ _ _ _ _ e1 j)⟩

end Cert.KernelIdeal.Attn

end
-- ==== Proof.KernelIdealAttnValue.lean ====
/- The two claimed results of the attention's backward call, as whole arrays. -/
module

public import proofs.«01_k».proof.Defs
public import proofs.«01_k».proof.Proof.KernelIdealAttnDgate
public import proofs.«01_k».proof.Proof.KernelIdealAttnLaunch
public import proofs.«01_k».proof.Proof.ReferenceIdealLines
public import Idealize.ShloMosaic.Lib.Pipeline.ValueKit
public import Idealize.ShloMosaic.Lib.Pipeline.ArrRel

@[expose] public section

set_option maxRecDepth 16384

noncomputable section

open Idealize.ShloMosaic Idealize.ShloMosaic.TcCoe Idealize.SL.Sem

namespace Cert.KernelIdeal.Attn

open Cert.KernelIdeal Cert.KernelIdeal.Gen
open Cert.ReferenceIdeal.Read

variable (m : (ℓ : Loc nD τ sig) → Buf (Elt Ideal) ℓ)

/-- Where an element of a written block lies in the array. -/
theorem place12 (t : Fin cfg0.N) (y : S2048x256.Idx) : (win0_12.rect t).emb y = ix2 (rowG (t.val / 8) y) (colG (t.val / 8) y) := by
  have e := (idx t).2.2.2.2.1
  refine funext fun a => Fin.ext ?_
  refine (win0_12.rect_emb_val t y a rfl).trans ?_
  rw [e]
  match a with
  | 0 => show t.val / 128 % 2 * 2048 + (y 0).val = t.val / 8 / 16 % 2 * 2048 + (y 0).val; omega
  | 1 => exact (show t.val / 8 % 16 * 256 + (y 1).val = t.val / 8 % 16 * 256 + (y 1).val from rfl)

theorem place13 (t : Fin cfg0.N) (y : S2048x256.Idx) : (win0_13.rect t).emb y = ix2 (rowG (t.val / 8) y) (colG (t.val / 8) y) := by
  have e := (idx t).2.2.2.2.2
  refine funext fun a => Fin.ext ?_
  refine (win0_13.rect_emb_val t y a rfl).trans ?_
  rw [e]
  match a with
  | 0 => show t.val / 128 % 2 * 2048 + (y 0).val = t.val / 8 / 16 % 2 * 2048 + (y 0).val; omega
  | 1 => exact (show t.val / 8 % 16 * 256 + (y 1).val = t.val / 8 % 16 * 256 + (y 1).val from rfl)

theorem covers12 : (cfg0.win 12).Covers := by decide +kernel

/-- The array of the gradient of the values is `G` where every block written back is. -/
theorem whole12 (c : Dev nD) (after : (w : Fin cfg0.W) → Fin cfg0.N → (cfg0.win w).block.Idx → Elt Ideal (cfg0.win w).elt)
    (G : S4096x4096.Idx → Elt Ideal .bf16) (hG : ∀ t, (cfg0.win 12).flush t = true → ∀ y : S2048x256.Idx, after 12 t y = G ((win0_12.rect t).emb y)) :
    ((rdat m (track m) c).withAfter after).arrAt 12 cfg0.N = G := by
  refine ((rdat m (track m) c).withAfter after).arrAt_eq_of_covers 12 G covers12 (fun t hf y => ?_) (Memref.isWhole_whole _)
  rw [Pipeline.RDat.withAfter_after]
  exact hG t hf y

theorem covers13 : (cfg0.win 13).Covers := by decide +kernel

/-- The array of the gradient of the gate is `G` where every block written back is. -/
theorem whole13 (c : Dev nD) (after : (w : Fin cfg0.W) → Fin cfg0.N → (cfg0.win w).block.Idx → Elt Ideal (cfg0.win w).elt)
    (G : S4096x4096.Idx → Elt Ideal .bf16) (hG : ∀ t, (cfg0.win 13).flush t = true → ∀ y : S2048x256.Idx, after 13 t y = G ((win0_13.rect t).emb y)) :
    ((rdat m (track m) c).withAfter after).arrAt 13 cfg0.N = G := by
  refine ((rdat m (track m) c).withAfter after).arrAt_eq_of_covers 13 G covers13 (fun t hf y => ?_) (Memref.isWhole_whole _)
  rw [Pipeline.RDat.withAfter_after]
  exact hG t hf y

/-- The gradient of the values, as an array. -/
theorem final12 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m (track m) c).Leaves w u (after w u)) :
    ((rdat m (track m) c).withAfter after).arrAt 12 cfg0.N = val_main_v144 (F := Ideal) (X0 m c) (X1 m c) (X2 m c) (X3 m c) := by
  refine whole12 m c after _ fun t hf y => ?_
  obtain ⟨Y, -, ha⟩ := hL 12 t hf
  have e : ∀ y, after 12 t y = dvPart m c (t.val / 8) 8 y := ha.2 ((flush0_12 t).1 hf)
  rw [e y, place12, dv_at, val_main_v144_apply]
  rfl

/-- The gradient of the gate, as an array. -/
theorem final13 (c : Dev nD) (h0 : ∀ j, Re (X0 m c j)) (h1 : ∀ j, Re (X1 m c j))
    (after : (w : Fin cfg0.W) → Fin cfg0.N → (cfg0.win w).block.Idx → Elt Ideal (cfg0.win w).elt)
    (hL : ∀ (w : Fin cfg0.W) (u : Fin cfg0.N), (cfg0.win w).flush u = true → (rdat m (track m) c).Leaves w u (after w u)) :
    ((rdat m (track m) c).withAfter after).arrAt 13 cfg0.N = val_main_v143 (F := Ideal) (X0 m c) (X1 m c) (X2 m c) (X3 m c) := by
  refine whole13 m c after _ fun t hf y => ?_
  obtain ⟨Y, -, ha⟩ := hL 13 t hf
  have e : after 13 t = dg m c (t.val / 8) := ha.2
  rw [congrFun e y, place13, dg_at m c h0 h1, val_main_v143_apply]
  rfl

/-- The two gradients the reference has, of the kernel's arguments. -/
def out0 (c : Dev nD) : (⟨S4096x4096, .bf16⟩ : BufTy).Contents (Elt Ideal) := val_main_v144 (F := Ideal)
  (m ((c.tc : Thread nD τ).loc main_arg0)) (m ((c.tc : Thread nD τ).loc main_arg1)) (m ((c.tc : Thread nD τ).loc main_arg2)) (m ((c.tc : Thread nD τ).loc main_arg3))
def out1 (c : Dev nD) : (⟨S4096x4096, .bf16⟩ : BufTy).Contents (Elt Ideal) := val_main_v143 (F := Ideal)
  (m ((c.tc : Thread nD τ).loc main_arg0)) (m ((c.tc : Thread nD τ).loc main_arg1)) (m ((c.tc : Thread nD τ).loc main_arg2)) (m ((c.tc : Thread nD τ).loc main_arg3))

theorem x0_eq (c : Dev nD) : X0 m c = m ((c.tc : Thread nD τ).loc main_arg0) := rfl
theorem x1_eq (c : Dev nD) : X1 m c = m ((c.tc : Thread nD τ).loc main_arg1) := rfl
theorem x2_eq (c : Dev nD) : X2 m c = m ((c.tc : Thread nD τ).loc main_arg2) := rfl
theorem x3_eq (c : Dev nD) : X3 m c = m ((c.tc : Thread nD τ).loc main_arg3) := rfl

theorem out0_eq (c : Dev nD) : val_main_v144 (F := Ideal) (X0 m c) (X1 m c) (X2 m c) (X3 m c) = out0 m c := by
  rw [x0_eq, x1_eq, x2_eq, x3_eq]
  unfold out0
  rfl
theorem out1_eq (c : Dev nD) : val_main_v143 (F := Ideal) (X0 m c) (X1 m c) (X2 m c) (X3 m c) = out1 m c := by
  rw [x0_eq, x1_eq, x2_eq, x3_eq]
  unfold out1
  rfl

/-- The arguments, as plain arrays. -/
abbrev arg0 (c : Dev nD) : (⟨S4096x16384, .bf16⟩ : BufTy).Contents (Elt Ideal) := m ((c.tc : Thread nD τ).loc main_arg0)
abbrev arg1 (c : Dev nD) : (⟨S4096x4096, .bf16⟩ : BufTy).Contents (Elt Ideal) := m ((c.tc : Thread nD τ).loc main_arg1)
abbrev arg2 (c : Dev nD) : (⟨S1x128, .f32⟩ : BufTy).Contents (Elt Ideal) := m ((c.tc : Thread nD τ).loc main_arg2)
abbrev arg3 (c : Dev nD) : (⟨S1x128, .f32⟩ : BufTy).Contents (Elt Ideal) := m ((c.tc : Thread nD τ).loc main_arg3)

theorem out0_of (c : Dev nD) : val_main_v144 (F := Ideal) (arg0 m c) (arg1 m c) (arg2 m c) (arg3 m c) = out0 m c := by
  unfold out0
  rfl
theorem out1_of (c : Dev nD) : val_main_v143 (F := Ideal) (arg0 m c) (arg1 m c) (arg2 m c) (arg3 m c) = out1 m c := by
  unfold out1
  rfl

end Cert.KernelIdeal.Attn
end

namespace Cert.Proof
open Idealize.ShloMosaic Idealize.SL.Sem Cert.KernelIdeal.Attn Cert.KernelIdeal.Gen

/-- What the kernel's program leaves. -/
theorem kernel_leaves [hPre_finite : Cert.Pre_finite.Facts] (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v74_2) = out0 m c
      ∧ r.2.mem ((c.tc : Thread Cert.KernelIdeal.nD Cert.KernelIdeal.τ).loc Cert.KernelIdeal.main_v74_3) = out1 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run _ _ _).mono (fun r ⟨h, hz⟩ c => ?_) (run_main m g (track m) (step m) (fun _ _ _ _ _ _ h => absurd rfl h))
  obtain ⟨after, hL, hA⟩ := Pipeline.RDat.FramePost.exists_exact h c
  obtain ⟨h0, h1⟩ := finite_real _ _ _ _ (hpre c)
  refine ⟨(hA 12).trans ?_, (hA 13).trans ?_, ?_, ?_, ?_, ?_⟩
  · exact (final12 m c after hL).trans (out0_eq m c)
  · exact (final13 m c h0 h1 after hL).trans (out1_eq m c)
  · exact (Pipeline.RDat.FramePost.arr_in h c 3 rfl).trans ((A_eq m (track m) c 3).trans (V_main_arg0 m c))
  · exact (Pipeline.RDat.FramePost.arr_in h c 5 rfl).trans ((A_eq m (track m) c 5).trans (V_main_arg1 m c))
  · exact (Pipeline.RDat.FramePost.arr_in h c 8 rfl).trans ((A_eq m (track m) c 8).trans (V_main_arg2 m c))
  · exact (Pipeline.RDat.FramePost.arr_in h c 9 rfl).trans ((A_eq m (track m) c 9).trans (V_main_arg3 m c))

/-- What the reference's program leaves, of the arrays it is given. -/
theorem reference_leaves (m : (ℓ : Loc Cert.ReferenceIdeal.nD Cert.ReferenceIdeal.τ Cert.ReferenceIdeal.sig) → Buf (Elt Ideal) ℓ) (g : Dev Cert.ReferenceIdeal.nD → PrngReg)
    (x0 : Dev Cert.ReferenceIdeal.nD → (⟨Cert.ReferenceIdeal.S4096x16384, .bf16⟩ : BufTy).Contents (Elt Ideal))
    (x1 : Dev Cert.ReferenceIdeal.nD → (⟨Cert.ReferenceIdeal.S4096x4096, .bf16⟩ : BufTy).Contents (Elt Ideal))
    (x2 x3 : Dev Cert.ReferenceIdeal.nD → (⟨Cert.ReferenceIdeal.S1x128, .f32⟩ : BufTy).Contents (Elt Ideal))
    (y0 y1 : Dev Cert.ReferenceIdeal.nD → (⟨Cert.ReferenceIdeal.S4096x4096, .bf16⟩ : BufTy).Contents (Elt Ideal))
    (h0 : ∀ c, Cert.ReferenceIdeal.Read.val_main_v144 (F := Ideal) (x0 c) (x1 c) (x2 c) (x3 c) = y0 c)
    (h1 : ∀ c, Cert.ReferenceIdeal.Read.val_main_v143 (F := Ideal) (x0 c) (x1 c) (x2 c) (x3 c) = y1 c)
    (hargs : ∀ c : Dev Cert.ReferenceIdeal.nD,
      m ((c.tc : Thread Cert.ReferenceIdeal.nD Cert.ReferenceIdeal.τ).loc Cert.ReferenceIdeal.main_arg0) = x0 c
      ∧ m ((c.tc : Thread Cert.ReferenceIdeal.nD Cert.ReferenceIdeal.τ).loc Cert.ReferenceIdeal.main_arg1) = x1 c
      ∧ m ((c.tc : Thread Cert.ReferenceIdeal.nD Cert.ReferenceIdeal.τ).loc Cert.ReferenceIdeal.main_arg2) = x2 c
      ∧ m ((c.tc : Thread Cert.ReferenceIdeal.nD Cert.ReferenceIdeal.τ).loc Cert.ReferenceIdeal.main_arg3) = x3 c) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v144) = y0 c
      ∧ r.2.mem ((c.tc : Thread Cert.ReferenceIdeal.nD Cert.ReferenceIdeal.τ).loc Cert.ReferenceIdeal.main_v143) = y1 c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  refine (θ_run _ _ _).mono (fun r h c => ?_) (Cert.ReferenceIdeal.Lines.run m g)
  obtain ⟨e0, e1, ea⟩ := h c
  obtain ⟨a0, a1, a2, a3⟩ := hargs c
  refine ⟨e0.trans ?_, e1.trans ?_, ea⟩
  · rw [a0, a1, a2, a3]
    exact h0 c
  · rw [a0, a1, a2, a3]
    exact h1 c

/-- The attention's backward call writes the gradients of the values and of the gate that the reference has. -/
theorem algebraic_attn_bwd [hPre_finite : Cert.Pre_finite.Facts] : Cert.algebraic_KernelIdeal_ReferenceIdeal_pre_finite :=
  fun m g m' g' hpre hargs => ⟨out0 m, out1 m, kernel_leaves m g hpre,
    reference_leaves m' g' (arg0 m) (arg1 m) (arg2 m) (arg3 m) (out0 m) (out1 m) (out0_of m) (out1_of m) hargs⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.AttnInDw
public import proofs.«01_k».proof.Proof.Gen.AttnInDw.Skeleton
public import proofs.«01_k».proof.Proof.Gen.AttnInDw.Launch
public import proofs.«01_k».proof.Proof.Gen.AttnInDw.Points
public import proofs.«01_k».proof.Proof.Gen.AttnInDw.Frame
public import proofs.«01_k».proof.Proof.Gen.AttnInDwIdeal
public import proofs.«01_k».proof.Proof.Gen.AttnInDwIdeal.Skeleton
public import proofs.«01_k».proof.Proof.Gen.AttnInDwIdeal.Launch
public import proofs.«01_k».proof.Proof.Gen.AttnInDwIdeal.Points
public import proofs.«01_k».proof.Proof.Gen.AttnInDwIdeal.Frame
public import proofs.«01_k».proof.Proof.Gen.AttnInDwRefIdeal
public import proofs.«01_k».proof.Proof.Gen.SsmInDw
public import proofs.«01_k».proof.Proof.Gen.SsmInDw.Skeleton
public import proofs.«01_k».proof.Proof.Gen.SsmInDw.Launch
public import proofs.«01_k».proof.Proof.Gen.SsmInDw.Points
public import proofs.«01_k».proof.Proof.Gen.SsmInDw.Frame
public import proofs.«01_k».proof.Proof.Gen.SsmInDwIdeal
public import proofs.«01_k».proof.Proof.Gen.SsmInDwIdeal.Skeleton
public import proofs.«01_k».proof.Proof.Gen.SsmInDwIdeal.Launch
public import proofs.«01_k».proof.Proof.Gen.SsmInDwIdeal.Points
public import proofs.«01_k».proof.Proof.Gen.SsmInDwIdeal.Frame
public import proofs.«01_k».proof.Proof.Gen.SsmInDwRefIdeal
public import proofs.«01_k».proof.Proof.Gen.AttnOutDw
public import proofs.«01_k».proof.Proof.Gen.AttnOutDw.Skeleton
public import proofs.«01_k».proof.Proof.Gen.AttnOutDw.Launch
public import proofs.«01_k».proof.Proof.Gen.AttnOutDw.Points
public import proofs.«01_k».proof.Proof.Gen.AttnOutDw.Frame
public import proofs.«01_k».proof.Proof.Gen.AttnOutDwIdeal
public import proofs.«01_k».proof.Proof.Gen.AttnOutDwIdeal.Skeleton
public import proofs.«01_k».proof.Proof.Gen.AttnOutDwIdeal.Launch
public import proofs.«01_k».proof.Proof.Gen.AttnOutDwIdeal.Points
public import proofs.«01_k».proof.Proof.Gen.AttnOutDwIdeal.Frame
public import proofs.«01_k».proof.Proof.Gen.AttnOutDwRefIdeal
public import proofs.«01_k».proof.Proof.Gen.AttnInDx
public import proofs.«01_k».proof.Proof.Gen.AttnInDx.Skeleton
public import proofs.«01_k».proof.Proof.Gen.AttnInDx.Launch
public import proofs.«01_k».proof.Proof.Gen.AttnInDx.Points
public import proofs.«01_k».proof.Proof.Gen.AttnInDx.Frame
public import proofs.«01_k».proof.Proof.Gen.AttnInDxIdeal
public import proofs.«01_k».proof.Proof.Gen.AttnInDxIdeal.Skeleton
public import proofs.«01_k».proof.Proof.Gen.AttnInDxIdeal.Launch
public import proofs.«01_k».proof.Proof.Gen.AttnInDxIdeal.Points
public import proofs.«01_k».proof.Proof.Gen.AttnInDxIdeal.Frame
public import proofs.«01_k».proof.Proof.Gen.AttnInDxRefIdeal
public import proofs.«01_k».proof.Proof.Gen.SsmInDx
public import proofs.«01_k».proof.Proof.Gen.SsmInDx.Skeleton
public import proofs.«01_k».proof.Proof.Gen.SsmInDx.Launch
public import proofs.«01_k».proof.Proof.Gen.SsmInDx.Points
public import proofs.«01_k».proof.Proof.Gen.SsmInDx.Frame
public import proofs.«01_k».proof.Proof.Gen.SsmInDxIdeal
public import proofs.«01_k».proof.Proof.Gen.SsmInDxIdeal.Skeleton
public import proofs.«01_k».proof.Proof.Gen.SsmInDxIdeal.Launch
public import proofs.«01_k».proof.Proof.Gen.SsmInDxIdeal.Points
public import proofs.«01_k».proof.Proof.Gen.SsmInDxIdeal.Frame
public import proofs.«01_k».proof.Proof.Gen.SsmInDxRefIdeal
public import proofs.«01_k».proof.Proof.Gen.AttnOutDx
public import proofs.«01_k».proof.Proof.Gen.AttnOutDx.Skeleton
public import proofs.«01_k».proof.Proof.Gen.AttnOutDx.Launch
public import proofs.«01_k».proof.Proof.Gen.AttnOutDx.Points
public import proofs.«01_k».proof.Proof.Gen.AttnOutDx.Frame
public import proofs.«01_k».proof.Proof.Gen.AttnOutDxIdeal
public import proofs.«01_k».proof.Proof.Gen.AttnOutDxIdeal.Skeleton
public import proofs.«01_k».proof.Proof.Gen.AttnOutDxIdeal.Launch
public import proofs.«01_k».proof.Proof.Gen.AttnOutDxIdeal.Points
public import proofs.«01_k».proof.Proof.Gen.AttnOutDxIdeal.Frame
public import proofs.«01_k».proof.Proof.Gen.AttnOutDxRefIdeal
public import proofs.«01_k».proof.Proof.Gen.SsmOutDx
public import proofs.«01_k».proof.Proof.Gen.SsmOutDx.Skeleton
public import proofs.«01_k».proof.Proof.Gen.SsmOutDx.Launch
public import proofs.«01_k».proof.Proof.Gen.SsmOutDx.Points
public import proofs.«01_k».proof.Proof.Gen.SsmOutDx.Frame
public import proofs.«01_k».proof.Proof.Gen.SsmOutDxIdeal
public import proofs.«01_k».proof.Proof.Gen.SsmOutDxIdeal.Skeleton
public import proofs.«01_k».proof.Proof.Gen.SsmOutDxIdeal.Launch
public import proofs.«01_k».proof.Proof.Gen.SsmOutDxIdeal.Points
public import proofs.«01_k».proof.Proof.Gen.SsmOutDxIdeal.Frame
public import proofs.«01_k».proof.Proof.Gen.SsmOutDxRefIdeal
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInRefIdeal
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInRefIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import Idealize.ShloMosaic.Adequacy
public import Idealize.ShloMosaic.Init
public import proofs.«01_k».proof.Proof.Gen.AttnInDwIdeal.Value
public import proofs.«01_k».proof.Proof.Gen.AttnInDwRefIdeal.Run
public import proofs.«01_k».proof.Proof.Gen.AttnInDwRefIdeal.Read
public import proofs.«01_k».proof.Proof.AttnInDwProduct
public import proofs.«01_k».proof.Proof.Gen.SsmInDwIdeal.Value
public import proofs.«01_k».proof.Proof.Gen.SsmInDwRefIdeal.Run
public import proofs.«01_k».proof.Proof.Gen.SsmInDwRefIdeal.Read
public import proofs.«01_k».proof.Proof.SsmInDwProduct
public import proofs.«01_k».proof.Proof.Gen.AttnOutDwIdeal.Value
public import proofs.«01_k».proof.Proof.Gen.AttnOutDwRefIdeal.Run
public import proofs.«01_k».proof.Proof.Gen.AttnOutDwRefIdeal.Read
public import proofs.«01_k».proof.Proof.AttnOutDwProduct
public import proofs.«01_k».proof.Proof.Gen.AttnInDxIdeal.Value
public import proofs.«01_k».proof.Proof.Gen.AttnInDxRefIdeal.Run
public import proofs.«01_k».proof.Proof.Gen.AttnInDxRefIdeal.Read
public import proofs.«01_k».proof.Proof.AttnInDxProduct
public import proofs.«01_k».proof.Proof.Gen.SsmInDxIdeal.Value
public import proofs.«01_k».proof.Proof.Gen.SsmInDxRefIdeal.Run
public import proofs.«01_k».proof.Proof.Gen.SsmInDxRefIdeal.Read
public import proofs.«01_k».proof.Proof.SsmInDxProduct
public import proofs.«01_k».proof.Proof.Gen.AttnOutDxIdeal.Value
public import proofs.«01_k».proof.Proof.Gen.AttnOutDxRefIdeal.Run
public import proofs.«01_k».proof.Proof.Gen.AttnOutDxRefIdeal.Read
public import proofs.«01_k».proof.Proof.AttnOutDxProduct
public import proofs.«01_k».proof.Proof.Gen.SsmOutDxIdeal.Value
public import proofs.«01_k».proof.Proof.Gen.SsmOutDxRefIdeal.Run
public import proofs.«01_k».proof.Proof.Gen.SsmOutDxRefIdeal.Read
public import proofs.«01_k».proof.Proof.SsmOutDxProduct
public import proofs.«01_k».proof.Proof.Gen.AttnInIdeal.Value
public import proofs.«01_k».proof.Proof.Gen.AttnInRefIdeal.Run
public import proofs.«01_k».proof.Proof.Gen.AttnInRefIdeal.Read
public import proofs.«01_k».proof.Proof.AttnInProduct
public import proofs.«01_k».proof.Proof.Gen.SsmInIdeal.Value
public import proofs.«01_k».proof.Proof.Gen.SsmInRefIdeal.Run
public import proofs.«01_k».proof.Proof.Gen.SsmInRefIdeal.Read
public import proofs.«01_k».proof.Proof.SsmInProduct
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.AttnOutProduct
public import proofs.«01_k».proof.Proof.KernelAttnLaunch
public import proofs.«01_k».proof.Proof.KernelIdealAttnLaunch
public import proofs.«01_k».proof.Proof.ReferenceIdealLines
public import proofs.«01_k».proof.Proof.KernelIdealAttnValue

@[expose] public section

noncomputable section

-- The frames also say that every semaphore counter ends at zero.

namespace Cert.Proof

open Idealize.ShloMosaic Idealize.SL.Sem Cert.Kernel

/-- The side conditions the precondition states. -/
theorem pre_finite_facts : Cert.Pre_finite.Facts := ⟨by decide, by decide, by decide, by decide, by decide, by decide⟩

theorem claim : Cert.Claim := ⟨Cert.Kernel.Gen.facts, Cert.KernelIdeal.Gen.facts, Cert.ReferenceIdeal.Gen.facts, Cert.AttnInDw.Gen.facts, Cert.AttnInDwIdeal.Gen.facts, Cert.AttnInDwRefIdeal.Gen.facts, Cert.SsmInDw.Gen.facts, Cert.SsmInDwIdeal.Gen.facts, Cert.SsmInDwRefIdeal.Gen.facts, Cert.AttnOutDw.Gen.facts, Cert.AttnOutDwIdeal.Gen.facts, Cert.AttnOutDwRefIdeal.Gen.facts, Cert.AttnInDx.Gen.facts, Cert.AttnInDxIdeal.Gen.facts, Cert.AttnInDxRefIdeal.Gen.facts, Cert.SsmInDx.Gen.facts, Cert.SsmInDxIdeal.Gen.facts, Cert.SsmInDxRefIdeal.Gen.facts, Cert.AttnOutDx.Gen.facts, Cert.AttnOutDxIdeal.Gen.facts, Cert.AttnOutDxRefIdeal.Gen.facts, Cert.SsmOutDx.Gen.facts, Cert.SsmOutDxIdeal.Gen.facts, Cert.SsmOutDxRefIdeal.Gen.facts, Cert.AttnIn.Gen.facts, Cert.AttnInIdeal.Gen.facts, Cert.AttnInRefIdeal.Gen.facts, Cert.SsmIn.Gen.facts, Cert.SsmInIdeal.Gen.facts, Cert.SsmInRefIdeal.Gen.facts, Cert.AttnOut.Gen.facts, Cert.AttnOutIdeal.Gen.facts, Cert.AttnOutRefIdeal.Gen.facts, pre_finite_facts,
  fun m g _ => Cert.Kernel.Attn.frame m g,
  fun m g _ => Cert.KernelIdeal.Attn.frame m g,
  fun m g _ => Cert.KernelIdeal.Attn.frame m g,
  fun m g _ => (θ_run _ _ _).mono (fun _ h => ⟨fun c => (h c).2.2, sem_eq_zero_of_no_sems rfl _⟩) (Cert.ReferenceIdeal.Lines.run m g),
  fun m g _ => (θ_run _ _ _).mono (fun _ h => ⟨fun c => (h c).2.2, sem_eq_zero_of_no_sems rfl _⟩) (Cert.ReferenceIdeal.Lines.run m g),
  fun m g _ => Cert.AttnInDw.Gen.frame m g,
  fun m g _ => Cert.AttnInDwIdeal.Gen.frame m g,
  fun m g _ => (θ_run _ _ _).mono (fun _ h => ⟨fun c => (h c).2, sem_eq_zero_of_no_sems rfl _⟩) (Cert.AttnInDwRefIdeal.Value.run m g),
  fun m g _ => Cert.SsmInDw.Gen.frame m g,
  fun m g _ => Cert.SsmInDwIdeal.Gen.frame m g,
  fun m g _ => (θ_run _ _ _).mono (fun _ h => ⟨fun c => (h c).2, sem_eq_zero_of_no_sems rfl _⟩) (Cert.SsmInDwRefIdeal.Value.run m g),
  fun m g _ => Cert.AttnOutDw.Gen.frame m g,
  fun m g _ => Cert.AttnOutDwIdeal.Gen.frame m g,
  fun m g _ => (θ_run _ _ _).mono (fun _ h => ⟨fun c => (h c).2, sem_eq_zero_of_no_sems rfl _⟩) (Cert.AttnOutDwRefIdeal.Value.run m g),
  fun m g _ => Cert.AttnInDx.Gen.frame m g,
  fun m g _ => Cert.AttnInDxIdeal.Gen.frame m g,
  fun m g _ => (θ_run _ _ _).mono (fun _ h => ⟨fun c => (h c).2, sem_eq_zero_of_no_sems rfl _⟩) (Cert.AttnInDxRefIdeal.Value.run m g),
  fun m g _ => Cert.SsmInDx.Gen.frame m g,
  fun m g _ => Cert.SsmInDxIdeal.Gen.frame m g,
  fun m g _ => (θ_run _ _ _).mono (fun _ h => ⟨fun c => (h c).2, sem_eq_zero_of_no_sems rfl _⟩) (Cert.SsmInDxRefIdeal.Value.run m g),
  fun m g _ => Cert.AttnOutDx.Gen.frame m g,
  fun m g _ => Cert.AttnOutDxIdeal.Gen.frame m g,
  fun m g _ => (θ_run _ _ _).mono (fun _ h => ⟨fun c => (h c).2, sem_eq_zero_of_no_sems rfl _⟩) (Cert.AttnOutDxRefIdeal.Value.run m g),
  fun m g _ => Cert.SsmOutDx.Gen.frame m g,
  fun m g _ => Cert.SsmOutDxIdeal.Gen.frame m g,
  fun m g _ => (θ_run _ _ _).mono (fun _ h => ⟨fun c => (h c).2, sem_eq_zero_of_no_sems rfl _⟩) (Cert.SsmOutDxRefIdeal.Value.run m g),
  fun m g _ => Cert.AttnIn.Gen.frame m g,
  fun m g _ => Cert.AttnInIdeal.Gen.frame m g,
  fun m g _ => (θ_run _ _ _).mono (fun _ h => ⟨fun c => (h c).2, sem_eq_zero_of_no_sems rfl _⟩) (Cert.AttnInRefIdeal.Value.run m g),
  fun m g _ => Cert.SsmIn.Gen.frame m g,
  fun m g _ => Cert.SsmInIdeal.Gen.frame m g,
  fun m g _ => (θ_run _ _ _).mono (fun _ h => ⟨fun c => (h c).2, sem_eq_zero_of_no_sems rfl _⟩) (Cert.SsmInRefIdeal.Value.run m g),
  fun m g _ => Cert.AttnOut.Gen.frame m g,
  fun m g _ => Cert.AttnOutIdeal.Gen.frame m g,
  fun m g _ => (θ_run _ _ _).mono (fun _ h => ⟨fun c => (h c).2, sem_eq_zero_of_no_sems rfl _⟩) (Cert.AttnOutRefIdeal.Value.run m g),
  trivial,
  algebraic_attn_bwd (hPre_finite := pre_finite_facts),
  trivial,
  algebraic_AttnInDw,
  trivial,
  algebraic_SsmInDw,
  trivial,
  algebraic_AttnOutDw,
  trivial,
  algebraic_AttnInDx,
  trivial,
  algebraic_SsmInDx,
  trivial,
  algebraic_AttnOutDx,
  trivial,
  algebraic_SsmOutDx,
  trivial,
  algebraic_AttnIn,
  trivial,
  algebraic_SsmIn,
  trivial,
  algebraic_AttnOut⟩

end Cert.Proof

end
